-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_att_vec2_finite [hPre_att_vec2_finite : Cert.Pre_att_vec2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_att_vec2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_att_vec2_finite [hPre_att_vec2_finite : Cert.Pre_att_vec2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_att_vec2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_att_vec2_finite [hKernelIdeal : Cert.KernelIdeal.Facts] [hPre_att_vec2_finite : Cert.Pre_att_vec2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_att_vec2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_att_vec2_finite [hReferenceIdeal : Cert.ReferenceIdeal.Facts] [hPre_att_vec2_finite : Cert.Pre_att_vec2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_att_vec2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_att_vec2_finite [hKernelIdeal : Cert.KernelIdeal.Facts] [hReferenceIdeal : Cert.ReferenceIdeal.Facts] [hPre_att_vec2_finite : Cert.Pre_att_vec2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_att_vec2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_att_vec2_finite : Cert.Pre_att_vec2_finite.Facts),
    quiescent_Kernel (hKernel := hKernel)
    ∧ quiescent_KernelIdeal (hKernelIdeal := hKernelIdeal)
    ∧ quiescent_KernelIdeal_pre_att_vec2_finite (hKernelIdeal := hKernelIdeal) (hPre_att_vec2_finite := hPre_att_vec2_finite)
    ∧ quiescent_ReferenceIdeal (hReferenceIdeal := hReferenceIdeal)
    ∧ quiescent_ReferenceIdeal_pre_att_vec2_finite (hReferenceIdeal := hReferenceIdeal) (hPre_att_vec2_finite := hPre_att_vec2_finite)
    ∧ preserves_Kernel_KernelIdeal
    ∧ algebraic_KernelIdeal_ReferenceIdeal_pre_att_vec2_finite (hKernelIdeal := hKernelIdeal) (hReferenceIdeal := hReferenceIdeal) (hPre_att_vec2_finite := hPre_att_vec2_finite)
-- ==== Pre_att_vec2_finite.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S128x64 : Shape := ⟨2, ![128, 64]⟩
abbrev S64x1 : Shape := ⟨2, ![64, 1]⟩
abbrev S_ : Shape := ⟨0, ![]⟩

class Facts : Prop where
  bcast_S_S3x3 : S_.BroadcastsInDim S3x3 (![] : Fin 0 → Fin S3x3.rank)

variable [Facts]

def fn {F : FTy → Type} [FloatOps F] (main_arg0 : FVec F S10000x128 .f32) (main_arg1 : FVec F S10000x10000 .f32) (main_arg2 : FVec F S10000x10000 .f32) (main_arg3 : FVec F S10000x10000 .f32) (main_arg4 : FVec F S128x128 .f32) (main_arg5 : FVec F S128x128 .f32) (main_arg6 : FVec F S128x128 .f32) (main_arg7 : FVec F S128x1 .f32) (main_arg8 : FVec F S128x1 .f32) (main_arg9 : FVec F S128x1 .f32) (main_arg10 : FVec F S3x3 .f32) (main_arg11 : FVec F S128x64 .f32) (main_arg12 : FVec F S128x64 .f32) (main_arg13 : FVec F S128x64 .f32) (main_arg14 : FVec F S64x1 .f32) (main_arg15 : FVec F S64x1 .f32) (main_arg16 : FVec F S64x1 .f32) (main_arg17 : FVec F S3x3 .f32) : IVec S3x3 1 :=
  let main_v0 : FVec F S3x3 .f32 := Host.absf main_arg17
  let main_cst : FVec F S_ .f32 := constant S_ .f32 0x7F800000#32
  let main_v1 : FVec F S3x3 .f32 := broadcastInDim S3x3 ![] bcast_S_S3x3 main_cst
  let main_v2 : IVec S3x3 1 := cmpf .olt main_v0 main_v1
  main_v2
-- ==== Kernel.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S128x64 : Shape := ⟨2, ![128, 64]⟩
abbrev S64x1 : Shape := ⟨2, ![64, 1]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S200x1 : Shape := ⟨2, ![200, 1]⟩
abbrev S1x3 : Shape := ⟨2, ![1, 3]⟩
abbrev S200x3 : Shape := ⟨2, ![200, 3]⟩
abbrev S200 : Shape := ⟨1, ![200]⟩

abbrev nBuf : Space → Nat
  | .hbm => 19
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x10000, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S3x3, .f32⟩
  | .hbm, ⟨11, _⟩ => ⟨S128x64, .f32⟩
  | .hbm, ⟨12, _⟩ => ⟨S128x64, .f32⟩
  | .hbm, ⟨13, _⟩ => ⟨S128x64, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S3x3, .f32⟩
  | .hbm, ⟨18, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S3x3, .f32⟩
  | .local _ .vmem, ⟨12, _⟩ => ⟨S128x64, .f32⟩
  | .local _ .vmem, ⟨13, _⟩ => ⟨S128x64, .f32⟩
  | .local _ .vmem, ⟨14, _⟩ => ⟨S128x64, .f32⟩
  | .local _ .vmem, ⟨15, _⟩ => ⟨S64x1, .f32⟩
  | .local _ .vmem, ⟨16, _⟩ => ⟨S64x1, .f32⟩
  | .local _ .vmem, ⟨17, _⟩ => ⟨S64x1, .f32⟩
  | .local _ .vmem, ⟨18, _⟩ => ⟨S3x3, .f32⟩
  | .local _ .vmem, ⟨19, _⟩ => ⟨S200x64, .f32⟩
  | .local _ .vmem, ⟨20, _⟩ => ⟨S200x64, .f32⟩
  | .local _ .vmem, ⟨21, _⟩ => ⟨S10000x128, .bf16⟩
  | .local _ .vmem, ⟨22, _⟩ => ⟨S10000x128, .bf16⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c50_i32_5 : BitVec 32 := 50#32
  let v14 : BitVec 1 := Scalar.cmpi .slt arg0 c50_i32_5
  let v15 : BitVec 32 := Scalar.extui v14
  let c0_i32_6 : BitVec 32 := 0#32
  let v16 : BitVec 1 := Scalar.cmpi .ne v15 c0_i32_6
  v16

def k0_off1 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c200_i32 : BitVec 32 := 200#32
  let v10 : BitVec 32 := Scalar.muli v9 c200_i32
  let v32 : Index := Scalar.indexCast v10
  let c0_19 : Index := 0#32
  ![v32.toNat, 0]
def k0_off2 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c200_i32 : BitVec 32 := 200#32
  let v10 : BitVec 32 := Scalar.muli v9 c200_i32
  let v94 : Index := Scalar.indexCast v10
  let c0_43 : Index := 0#32
  ![v94.toNat, 0]
def k0_cond3 (i : grid0.Coords) : BitVec 1 :=
  let arg0 : BitVec 32 := BitVec.ofNat 32 (i 0).val
  let c50_i32_7 : BitVec 32 := 50#32
  let v17 : BitVec 1 := Scalar.cmpi .sge arg0 c50_i32_7
  let v18 : BitVec 32 := Scalar.extui v17
  let c0_i32_8 : BitVec 32 := 0#32
  let v19 : BitVec 1 := Scalar.cmpi .ne v18 c0_i32_8
  v19

def k0_off3 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c200_i32 : BitVec 32 := 200#32
  let v10 : BitVec 32 := Scalar.muli v9 c200_i32
  let v30 : Index := Scalar.indexCast v10
  let c0_19 : Index := 0#32
  ![v30.toNat, 0]
def cc0_transform_0 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c50_i32 : BitVec 32 := 50#32
  let c0_i32 : BitVec 32 := 0#32
  let v0 : BitVec 1 := Scalar.cmpi .eq c50_i32 c0_i32
  let c1_i32 : BitVec 32 := 1#32
  let v1 : BitVec 32 := Scalar.select v0 c1_i32 c50_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S200x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S128x64 : Shape := ⟨2, ![128, 64]⟩
abbrev S64x1 : Shape := ⟨2, ![64, 1]⟩
abbrev S_ : Shape := ⟨0, ![]⟩
abbrev S10000x1 : Shape := ⟨2, ![10000, 1]⟩
abbrev S10000x3 : Shape := ⟨2, ![10000, 3]⟩
abbrev S10000 : Shape := ⟨1, ![10000]⟩
abbrev S10000x64 : Shape := ⟨2, ![10000, 64]⟩

abbrev nBuf : Space → Nat
  | .hbm => 169
  | .vmem => 0
  | .smem => 0
  | _ => 0

abbrev hbmTy0_0 (i : Nat) : BufTy := match i % 128 with
  | 0 => ⟨S10000x128, .f32⟩
  | 1 => ⟨S10000x10000, .f32⟩
  | 2 => ⟨S10000x10000, .f32⟩
  | 3 => ⟨S10000x10000, .f32⟩
  | 4 => ⟨S128x128, .f32⟩
  | 5 => ⟨S128x128, .f32⟩
  | 6 => ⟨S128x128, .f32⟩
  | 7 => ⟨S128x1, .f32⟩
  | 8 => ⟨S128x1, .f32⟩
  | 9 => ⟨S128x1, .f32⟩
  | 10 => ⟨S3x3, .f32⟩
  | 11 => ⟨S128x64, .f32⟩
  | 12 => ⟨S128x64, .f32⟩
  | 13 => ⟨S128x64, .f32⟩
  | 14 => ⟨S64x1, .f32⟩
  | 15 => ⟨S64x1, .f32⟩
  | 16 => ⟨S64x1, .f32⟩
  | 17 => ⟨S3x3, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S10000x128, .f32⟩
  | 25 => ⟨S_, .f32⟩
  | 26 => ⟨S10000x128, .f32⟩
  | 27 => ⟨S10000x128, .f32⟩
  | 28 => ⟨S10000x128, .f32⟩
  | 29 => ⟨S_, .f32⟩
  | 30 => ⟨S10000x128, .f32⟩
  | 31 => ⟨S10000x128, .f32⟩
  | 32 => ⟨S10000x1, .f32⟩
  | 33 => ⟨S10000x1, .f32⟩
  | 34 => ⟨S10000x1, .f32⟩
  | 35 => ⟨S_, .f32⟩
  | 36 => ⟨S10000x1, .f32⟩
  | 37 => ⟨S10000x1, .f32⟩
  | 38 => ⟨S_, .f32⟩
  | 39 => ⟨S10000x1, .f32⟩
  | 40 => ⟨S10000x1, .f32⟩
  | 41 => ⟨S10000x1, .f32⟩
  | 42 => ⟨S10000x1, .f32⟩
  | 43 => ⟨S10000x1, .f32⟩
  | 44 => ⟨S_, .f32⟩
  | 45 => ⟨S10000x1, .f32⟩
  | 46 => ⟨S10000x1, .f32⟩
  | 47 => ⟨S_, .f32⟩
  | 48 => ⟨S10000x1, .f32⟩
  | 49 => ⟨S10000x1, .f32⟩
  | 50 => ⟨S10000x1, .f32⟩
  | 51 => ⟨S10000x1, .f32⟩
  | 52 => ⟨S10000x1, .f32⟩
  | 53 => ⟨S_, .f32⟩
  | 54 => ⟨S10000x1, .f32⟩
  | 55 => ⟨S10000x1, .f32⟩
  | 56 => ⟨S_, .f32⟩
  | 57 => ⟨S10000x1, .f32⟩
  | 58 => ⟨S10000x1, .f32⟩
  | 59 => ⟨S10000x3, .f32⟩
  | 60 => ⟨S10000x3, .f32⟩
  | 61 => ⟨S_, .f32⟩
  | 62 => ⟨S10000x3, .f32⟩
  | 63 => ⟨S10000x3, .f32⟩
  | 64 => ⟨S_, .f32⟩
  | 65 => ⟨S10000, .f32⟩
  | 66 => ⟨S_, .f32⟩
  | 67 => ⟨S10000, .f32⟩
  | 68 => ⟨S10000, .f32⟩
  | 69 => ⟨S10000x1, .f32⟩
  | 70 => ⟨S10000x3, .f32⟩
  | 71 => ⟨S10000x3, .f32⟩
  | 72 => ⟨S10000x3, .f32⟩
  | 73 => ⟨S_, .f32⟩
  | 74 => ⟨S10000, .f32⟩
  | 75 => ⟨S10000x1, .f32⟩
  | 76 => ⟨S10000x3, .f32⟩
  | 77 => ⟨S10000x3, .f32⟩
  | 78 => ⟨S10000x1, .f32⟩
  | 79 => ⟨S10000x128, .f32⟩
  | 80 => ⟨S10000x128, .f32⟩
  | 81 => ⟨S10000x1, .f32⟩
  | 82 => ⟨S10000x128, .f32⟩
  | 83 => ⟨S10000x128, .f32⟩
  | 84 => ⟨S10000x128, .f32⟩
  | 85 => ⟨S10000x1, .f32⟩
  | 86 => ⟨S10000x128, .f32⟩
  | 87 => ⟨S10000x128, .f32⟩
  | 88 => ⟨S10000x128, .f32⟩
  | 89 => ⟨S_, .f32⟩
  | 90 => ⟨S10000x128, .f32⟩
  | 91 => ⟨S10000x128, .f32⟩
  | 92 => ⟨S_, .f32⟩
  | 93 => ⟨S10000x128, .f32⟩
  | 94 => ⟨S10000x128, .f32⟩
  | 95 => ⟨S10000x64, .f32⟩
  | 96 => ⟨S10000x64, .f32⟩
  | 97 => ⟨S_, .f32⟩
  | 98 => ⟨S10000x64, .f32⟩
  | 99 => ⟨S10000x64, .f32⟩
  | 100 => ⟨S10000x64, .f32⟩
  | 101 => ⟨S10000x64, .f32⟩
  | 102 => ⟨S_, .f32⟩
  | 103 => ⟨S10000x64, .f32⟩
  | 104 => ⟨S10000x64, .f32⟩
  | 105 => ⟨S10000x64, .f32⟩
  | 106 => ⟨S_, .f32⟩
  | 107 => ⟨S10000x64, .f32⟩
  | 108 => ⟨S10000x64, .f32⟩
  | 109 => ⟨S10000x1, .f32⟩
  | 110 => ⟨S10000x1, .f32⟩
  | 111 => ⟨S10000x1, .f32⟩
  | 112 => ⟨S_, .f32⟩
  | 113 => ⟨S10000x1, .f32⟩
  | 114 => ⟨S10000x1, .f32⟩
  | 115 => ⟨S_, .f32⟩
  | 116 => ⟨S10000x1, .f32⟩
  | 117 => ⟨S10000x1, .f32⟩
  | 118 => ⟨S10000x1, .f32⟩
  | 119 => ⟨S10000x1, .f32⟩
  | 120 => ⟨S10000x1, .f32⟩
  | 121 => ⟨S_, .f32⟩
  | 122 => ⟨S10000x1, .f32⟩
  | 123 => ⟨S10000x1, .f32⟩
  | 124 => ⟨S_, .f32⟩
  | 125 => ⟨S10000x1, .f32⟩
  | 126 => ⟨S10000x1, .f32⟩
  | 127 => ⟨S10000x1, .f32⟩
  | _ => ⟨S10000x128, .f32⟩

abbrev hbmTy0_1 (i : Nat) : BufTy := match i % 128 with
  | 0 => ⟨S10000x1, .f32⟩
  | 1 => ⟨S10000x1, .f32⟩
  | 2 => ⟨S_, .f32⟩
  | 3 => ⟨S10000x1, .f32⟩
  | 4 => ⟨S10000x1, .f32⟩
  | 5 => ⟨S_, .f32⟩
  | 6 => ⟨S10000x1, .f32⟩
  | 7 => ⟨S10000x1, .f32⟩
  | 8 => ⟨S10000x3, .f32⟩
  | 9 => ⟨S10000x3, .f32⟩
  | 10 => ⟨S_, .f32⟩
  | 11 => ⟨S10000x3, .f32⟩
  | 12 => ⟨S10000x3, .f32⟩
  | 13 => ⟨S_, .f32⟩
  | 14 => ⟨S10000, .f32⟩
  | 15 => ⟨S_, .f32⟩
  | 16 => ⟨S10000, .f32⟩
  | 17 => ⟨S10000, .f32⟩
  | 18 => ⟨S10000x1, .f32⟩
  | 19 => ⟨S10000x3, .f32⟩
  | 20 => ⟨S10000x3, .f32⟩
  | 21 => ⟨S10000x3, .f32⟩
  | 22 => ⟨S_, .f32⟩
  | 23 => ⟨S10000, .f32⟩
  | 24 => ⟨S10000x1, .f32⟩
  | 25 => ⟨S10000x3, .f32⟩
  | 26 => ⟨S10000x3, .f32⟩
  | 27 => ⟨S10000x1, .f32⟩
  | 28 => ⟨S10000x64, .f32⟩
  | 29 => ⟨S10000x64, .f32⟩
  | 30 => ⟨S10000x1, .f32⟩
  | 31 => ⟨S10000x64, .f32⟩
  | 32 => ⟨S10000x64, .f32⟩
  | 33 => ⟨S10000x64, .f32⟩
  | 34 => ⟨S10000x1, .f32⟩
  | 35 => ⟨S10000x64, .f32⟩
  | 36 => ⟨S10000x64, .f32⟩
  | 37 => ⟨S10000x64, .f32⟩
  | 38 => ⟨S_, .f32⟩
  | 39 => ⟨S10000x64, .f32⟩
  | 40 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_call0_cst : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call1_cst : Ref sig .tc := ⟨.hbm, 25, rfl⟩
abbrev main_call1_v0 : Ref sig .tc := ⟨.hbm, 26, rfl⟩
abbrev main_v5 : Ref sig .tc := ⟨.hbm, 27, rfl⟩
abbrev main_v6 : Ref sig .tc := ⟨.hbm, 28, rfl⟩
abbrev main_call2_cst : Ref sig .tc := ⟨.hbm, 29, rfl⟩
abbrev main_call2_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_8 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_call3_cst : Ref sig .tc := ⟨.hbm, 92, rfl⟩
abbrev main_call3_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_call4_cst : Ref sig .tc := ⟨.hbm, 97, rfl⟩
abbrev main_call4_v0 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call5_cst : Ref sig .tc := ⟨.hbm, 102, rfl⟩
abbrev main_call5_v0 : Ref sig .tc := ⟨.hbm, 103, rfl⟩
abbrev main_v63 : Ref sig .tc := ⟨.hbm, 104, rfl⟩
abbrev main_v64 : Ref sig .tc := ⟨.hbm, 105, rfl⟩
abbrev main_call6_cst : Ref sig .tc := ⟨.hbm, 106, rfl⟩
abbrev main_call6_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_10 : Ref sig .tc := ⟨.hbm, 112, rfl⟩
abbrev main_v69 : Ref sig .tc := ⟨.hbm, 113, rfl⟩
abbrev main_v70 : Ref sig .tc := ⟨.hbm, 114, rfl⟩
abbrev main_cst_11 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_12 : Ref sig .tc := ⟨.hbm, 121, rfl⟩
abbrev main_v76 : Ref sig .tc := ⟨.hbm, 122, rfl⟩
abbrev main_v77 : Ref sig .tc := ⟨.hbm, 123, rfl⟩
abbrev main_cst_13 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_14 : Ref sig .tc := ⟨.hbm, 130, rfl⟩
abbrev main_v83 : Ref sig .tc := ⟨.hbm, 131, rfl⟩
abbrev main_v84 : Ref sig .tc := ⟨.hbm, 132, rfl⟩
abbrev main_cst_15 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_16 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_cst_18 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_19 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_20 : Ref sig .tc := ⟨.hbm, 166, rfl⟩
abbrev main_v113 : Ref sig .tc := ⟨.hbm, 167, rfl⟩
abbrev main_v114 : Ref sig .tc := ⟨.hbm, 168, rfl⟩

abbrev nD : Nat := 1
abbrev τ : Topo := Topo.v7x

variable {F : FTy → Type} [FloatOps F]
-- ==== Proof.KernelFrame.lean ====
/-
  The frame of the kernel as printed: it runs to its end and leaves its arguments as they were. Nothing is said here of what it
  computes, so the body's triple names no contents of the result's window or of the five scratch arrays, and the proof data
  relates only what the body does with its inputs: it leaves them as it found them.
-/
module

public import proofs.«01_k».proof.Proof.Gen.Kernel.Frame
public import proofs.«01_k».proof.Proof.Gen.Kernel.Skeleton
public import Idealize.ShloMosaic.Lib.Claim
public import Idealize.ShloMosaic.Lib.Pipeline.FrameBody

@[expose] public section

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- A buffer held at contents `f` is held at some contents reading as `f` does, which is what owning its memref at that reading says. -/
theorem owns_read {s : Shape} {e : EltTy} (c : Dev nD) (M : Memref sig .tc .vmem s e) (f : Buf (Elt F) (M.view.loc (c : Thread nD τ))) :
    (M.view.loc (c : Thread nD τ) ↦[M.view.set]{fullShare} f : sProp 𝕄)
      ⊢ iprop(∃ f', ⌜M.view.read (Elt F) f' = M.view.read (Elt F) f⌝ ∗ M.view.loc (c : Thread nD τ) ↦[M.view.set]{fullShare} f') := by
  iintro H; iexists f; isplitr
  · ipureintro; rfl
  iexact H

/-- The same, what it reads forgotten. -/
theorem owns_some {s : Shape} {e : EltTy} (c : Dev nD) (M : Memref sig .tc .vmem s e) (f : Buf (Elt F) (M.view.loc (c : Thread nD τ))) :
    (M.view.loc (c : Thread nD τ) ↦[M.view.set]{fullShare} f : sProp 𝕄)
      ⊢ iprop(∃ d, ∃ f', ⌜M.view.read (Elt F) f' = d⌝ ∗ M.view.loc (c : Thread nD τ) ↦[M.view.set]{fullShare} f') := by
  iintro H; iexists _; iapply owns_read; iexact H

/-- The body at any point, on whole buffers: it ends with the seventeen inputs as they were, and the result's buffer and the five scratch
    buffers at contents not named. Whether a point runs each of the body's three branches is left open. -/
theorem body_runs (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S3x3 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x64 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S3x3 .f32) (harg17 : arg17.IsWhole) (arg18 : Memref sig .tc .vmem S200x64 .f32) (harg18 : arg18.IsWhole) (arg19 : Memref sig .tc .vmem S10000x128 .bf16) (harg19 : arg19.IsWhole) (arg20 : Memref sig .tc .vmem S10000x128 .bf16) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .f32) (harg23 : arg23.IsWhole)
    (x1 : Vec F S200x10000 .f32) (x2 : Vec F S200x10000 .f32) (x3 : Vec F S10000x128 .f32) (x4 : Vec F S128x128 .f32) (x5 : Vec F S128x128 .f32) (x6 : Vec F S128x128 .f32) (x7 : Vec F S128x1 .f32) (x8 : Vec F S128x1 .f32) (x9 : Vec F S128x1 .f32) (x10 : Vec F S3x3 .f32) (x11 : Vec F S128x64 .f32) (x12 : Vec F S128x64 .f32) (x13 : Vec F S128x64 .f32) (x14 : Vec F S64x1 .f32) (x15 : Vec F S64x1 .f32) (x16 : Vec F S64x1 .f32) (x17 : Vec F S3x3 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) Set.univ (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mega_kernel_eq_skeleton]; unfold cc0__mega_kernel_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf1 hf2 hf3 hf4 hf5 hf6 hf7 hf8 hf9 hf10 hf11 hf12 hf13 hf14 hf15 hf16 hf17
  sl_exec
  sl_step
  iapply Hk
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  isplitl [H7]; · iapply owns_read; iexact H7
  isplitl [H8]; · iapply owns_read; iexact H8
  isplitl [H9]; · iapply owns_read; iexact H9
  isplitl [H10]; · iapply owns_read; iexact H10
  isplitl [H11]; · iapply owns_read; iexact H11
  isplitl [H12]; · iapply owns_read; iexact H12
  isplitl [H13]; · iapply owns_read; iexact H13
  isplitl [H14]; · iapply owns_read; iexact H14
  isplitl [H15]; · iapply owns_read; iexact H15
  isplitl [H16]; · iapply owns_read; iexact H16
  isplitl [H17]; · iapply owns_read; iexact H17
  isplitl [H18]; · iapply owns_some; iexact H18
  isplitl [H19]; · iapply owns_some; iexact H19
  isplitl [H20]; · iapply owns_some; iexact H20
  isplitl [H21]; · iapply owns_some; iexact H21
  isplitl [H22]; · iapply owns_some; iexact H22
  iapply owns_some; iexact H23

/-! ## The proof data and the body obligation -/

/-- The relational proof data on core `c`: the arrays as the launch finds them; an input's buffer left as found, nothing said of the
    result's; the scratch buffers at any contents between the points; nothing owed, full shares. -/
def rdat (c : Dev nD) : Pipeline.RDat τ (Elt F) Unit ℕ (UR sig nD τ) ℕ cfg0 c where
  A w := V m c (Pipeline.arrRef spec0 w)
  after w t Y X := (cfg0.win w).isOut = false → X = Y
  Φ _ := Pipeline.ΦA spec0 c
  q _ := fullShare
  owed _ := 0

/-- Its arrays are the launch memory's. -/
theorem A_eq (c : Dev nD) (w : Fin cfg0.W) : (rdat m c).A w = V m c (Pipeline.arrRef spec0 w) := by
  dsimp only [rdat]

/-- A buffer handed back at the contents it was found at, which its window's relation allows. -/
theorem kept (c : Dev nD) (w : Fin cfg0.W) (t : Fin cfg0.N) (Y : (cfg0.win w).block.Idx → Elt F (cfg0.win w).elt) :
    (owns (c : Thread nD τ) ((cfg0.win w).stage (cfg0.slots t w)) fullShare Y : sProp 𝕄)
      ⊢ iprop(∃ X, ⌜(rdat m c).after w t Y X⌝ ∗ owns (c : Thread nD τ) ((cfg0.win w).stage (cfg0.slots t w)) fullShare X) := by
  iintro H; iexists Y; isplitr
  · ipureintro; exact fun _ => rfl
  iexact H

/-- A scratch buffer owned at some reading is held whole at some contents. -/
theorem scratch_some (c : Dev nD) (b : Ref sig .tc) (d : b.ty.Contents (Elt F)) :
    (owns (c : Thread nD τ) (Memref.whole b) fullShare d : sProp 𝕄) ⊢ iprop(∃ f : Buf (Elt F) ((c : Thread nD τ).loc b), ((c : Thread nD τ).loc b) ↦{fullShare} f) := by
  rw [owns_whole]; iintro H; iexists d; iexact H

/-- The body at any point: the buffers' contents unread, `body_runs` applies. -/
theorem body_obligation (c : Dev nD) : (rdat m c).BodyObligation (defs₀ (F := F)) Variants.none () Set.univ := by
  intro t Y _
  rw [bigSep_W0, bigSep_W0, show defs₀ (F := F) .tc cfg0.body (cfg0.bodyArgs t (cfg0.slots t)) = bodyAt0 t by unfold defs₀; rw [Defs.onTc_tc]]
  rw [show (rdat m c).Φ t.succ = (rdat m c).Φ t.castSucc from rfl,
    show (rdat m c).owesAt () t.succ = (rdat m c).owesAt () t.castSucc from rfl,
    show (rdat m c).Φ t.castSucc = Pipeline.ΦA spec0 c from rfl]
  unfold Pipeline.ΦA
  rw [scopedRest0_eq]
  iintro ⟨⟨⟨⟨%s0, S0⟩, ⟨%s1, S1⟩, ⟨%s2, S2⟩, ⟨%s3, S3⟩, ⟨%s4, S4⟩⟩, Hg⟩, Ho, H0, H1, H2, H3, H4, H5, H6, H7, H8, H9, H10, H11, H12, H13, H14, H15, H16, H17⟩
  iapply (body_runs c (grid0.coords t) _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  isplitl [S4]; · iexists s4; rw [owns_whole]; iexact S4
  iintro ⟨H0, H1, H2, H3, H4, H5, H6, H7, H8, H9, H10, H11, H12, H13, H14, H15, H16, ⟨%d17, H17⟩, ⟨%s0, S0⟩, ⟨%s1, S1⟩, ⟨%s2, S2⟩, ⟨%s3, S3⟩, ⟨%s4, S4⟩⟩
  isplitl [S0 S1 S2 S3 S4 Hg]
  · isplitr [Hg]
    · isplitl [S0]; · iapply scratch_some; iexact S0
      isplitl [S1]; · iapply scratch_some; iexact S1
      isplitl [S2]; · iapply scratch_some; iexact S2
      isplitl [S3]; · iapply scratch_some; iexact S3
      iapply scratch_some; iexact S4
    iexact Hg
  isplitl [Ho]; · iexact Ho
  isplitl [H0]; · iapply (kept m c 0 t (Y 0)); iexact H0
  isplitl [H1]; · iapply (kept m c 1 t (Y 1)); iexact H1
  isplitl [H2]; · iapply (kept m c 2 t (Y 2)); iexact H2
  isplitl [H3]; · iapply (kept m c 3 t (Y 3)); iexact H3
  isplitl [H4]; · iapply (kept m c 4 t (Y 4)); iexact H4
  isplitl [H5]; · iapply (kept m c 5 t (Y 5)); iexact H5
  isplitl [H6]; · iapply (kept m c 6 t (Y 6)); iexact H6
  isplitl [H7]; · iapply (kept m c 7 t (Y 7)); iexact H7
  isplitl [H8]; · iapply (kept m c 8 t (Y 8)); iexact H8
  isplitl [H9]; · iapply (kept m c 9 t (Y 9)); iexact H9
  isplitl [H10]; · iapply (kept m c 10 t (Y 10)); iexact H10
  isplitl [H11]; · iapply (kept m c 11 t (Y 11)); iexact H11
  isplitl [H12]; · iapply (kept m c 12 t (Y 12)); iexact H12
  isplitl [H13]; · iapply (kept m c 13 t (Y 13)); iexact H13
  isplitl [H14]; · iapply (kept m c 14 t (Y 14)); iexact H14
  isplitl [H15]; · iapply (kept m c 15 t (Y 15)); iexact H15
  isplitl [H16]; · iapply (kept m c 16 t (Y 16)); iexact H16
  iexists d17; isplitr
  · ipureintro; exact fun h => absurd h (by decide)
  iexact H17

/-! ## The run and the frame -/

-- the launch theorem's implicit arguments are found by unifying its conclusion with this one, which takes unfolding plain
-- definitions in a metavariable's type
set_option backward.isDefEq.respectTransparency.types false in
/-- The launch: every execution ends with the inputs' arrays as the launch found them, every other unscoped buffer too, and every
    semaphore counter at zero. -/
theorem run_quiescent : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- THE FRAME: from any memory with zero counters the kernel runs to its end, its eighteen arguments as they were and every
    counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c =>
    ⟨(h.1.arr_in c 2 rfl).trans (A_eq m c 2), (h.1.arr_in c 0 rfl).trans (A_eq m c 0), (h.1.arr_in c 1 rfl).trans (A_eq m c 1), (h.1 c).2 main_arg3 (Pipeline.mem_restRefs_of main_arg3 (by decide) (by decide)), (h.1.arr_in c 3 rfl).trans (A_eq m c 3), (h.1.arr_in c 4 rfl).trans (A_eq m c 4), (h.1.arr_in c 5 rfl).trans (A_eq m c 5), (h.1.arr_in c 6 rfl).trans (A_eq m c 6), (h.1.arr_in c 7 rfl).trans (A_eq m c 7), (h.1.arr_in c 8 rfl).trans (A_eq m c 8), (h.1.arr_in c 9 rfl).trans (A_eq m c 9), (h.1.arr_in c 10 rfl).trans (A_eq m c 10), (h.1.arr_in c 11 rfl).trans (A_eq m c 11), (h.1.arr_in c 12 rfl).trans (A_eq m c 12), (h.1.arr_in c 13 rfl).trans (A_eq m c 13), (h.1.arr_in c 14 rfl).trans (A_eq m c 14), (h.1.arr_in c 15 rfl).trans (A_eq m c 15), (h.1.arr_in c 16 rfl).trans (A_eq m c 16)⟩,
    h.2⟩) (run_quiescent m ρ)

end Cert.Proof.KernelFrame

end
-- ==== Proof.Body.lean ====
/-
  What one run of the kernel's body leaves in its buffers, as functions of what it found there: the body's triple at any grid
  point, the three branches it may take told apart by their printed conditions.
-/
module

public import proofs.«01_k».proof.Proof.Gen.KernelIdeal.Frame
public import proofs.«01_k».proof.Proof.Gen.KernelIdeal.Skeleton
public import Idealize.ShloMosaic.Lib.Claim
public import Idealize.ShloMosaic.Lib.VecWindow

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the body's first branch, as printed: the grid coordinate is zero. -/
abbrev cond1 (i : grid0.Coords) : BitVec 1 :=
  Scalar.cmpi .ne (Scalar.extui (Scalar.cmpi .eq (BitVec.ofNat 32 (i 0).val) 0#32) : BitVec 32) 0#32

/-! ## What each branch computes -/

/-- The 200 rows of the first layer's mixture a point of the first half computes, as the matrix unit takes them: from the two
    adjacency blocks, the two transformed inputs `u`, `v`, the block's own rows of the input and the attention's vectors. -/
abbrev fea (a1 a2 : Vec F S200x10000 .f32) (u v : Vec F S10000x128 .bf16) (x : Vec F S200x128 .f32) (w : Vec F S128x128 .f32)
    (al ah am : Vec F S128x1 .f32) (av : Vec F S3x3 .f32) : FVec F S200x128 .bf16 :=
  k0_pay14 (k0_pay7 a1 u) (k0_pay8 a2 v) (k0_pay9 x w) (k0_pay10 a2 v ah) (k0_pay11 x w am) av (k0_pay12 av) (k0_pay13 a1 u al)

/-- Those rows times the low-pass weights of the second layer. -/
abbrev bandL (a1 a2 : Vec F S200x10000 .f32) (u v : Vec F S10000x128 .bf16) (x : Vec F S200x128 .f32) (w : Vec F S128x128 .f32)
    (al ah am : Vec F S128x1 .f32) (av : Vec F S3x3 .f32) (w2 : Vec F S128x64 .f32) : FVec F S200x64 .f32 :=
  k0_pay15 (k0_pay7 a1 u) (k0_pay8 a2 v) (k0_pay9 x w) (k0_pay10 a2 v ah) (k0_pay11 x w am) av (k0_pay12 av) (k0_pay13 a1 u al) w2

/-- The 200 rows of the result a point of the second half computes: from the two adjacency blocks, the two whole arrays the first
    half built, the block's own rows of the third and the second layer's attention vectors. -/
abbrev outBlock (a1 a2 : Vec F S200x10000 .f32) (u v : Vec F S10000x64 .f32) (x : Vec F S200x64 .f32)
    (al ah am : Vec F S64x1 .f32) (av : Vec F S3x3 .f32) : FVec F S200x64 .f32 :=
  k0_pay6 (k0_pay17 a1 u) (k0_pay18 a2 v) x (k0_pay19 a1 u a2 v x al ah am av)

/-! ## The body's triple -/

/-- A buffer held at contents `f` is held at some contents reading as `f` does, which is what owning its memref at that reading says. -/
theorem owns_read {s : Shape} {e : EltTy} (c : Dev nD) (M : Memref sig .tc .vmem s e) (f : Buf (Elt F) (M.view.loc (c : Thread nD τ))) :
    (M.view.loc (c : Thread nD τ) ↦[M.view.set]{fullShare} f : sProp 𝕄)
      ⊢ iprop(∃ f', ⌜M.view.read (Elt F) f' = M.view.read (Elt F) f⌝ ∗ M.view.loc (c : Thread nD τ) ↦[M.view.set]{fullShare} f') := by
  iintro H; iexists f; isplitr
  · ipureintro; rfl
  iexact H

/-- A view of contents either overwritten whole or left alone reads the new contents or the old. -/
theorem branch_full {s : Shape} {e : EltTy} {sp : Space} (v : View sig .tc sp s e) (f : v.ty.Contents (Elt F)) {off : Fin s.rank → ℕ}
    (inb : ∀ a, off a + s.size a ≤ s.size a) {p : Prop} [Decidable p] (w : (Rect.unit off s.size inb).shape.Idx → Elt F e) :
    v.read (Elt F) (if hc : p then v.writes (Elt F) f [⟨Rect.unit off s.size inb, w⟩] else f) = if p then w else v.read (Elt F) f := by
  by_cases h : p
  · rw [dif_pos h, if_pos h]; exact View.read_writes_full v f inb w []
  · rw [dif_neg h, if_neg h]

/-- The same of contents overwritten in one window. -/
theorem branch_put {s : Shape} {e : EltTy} {sp : Space} (v : View sig .tc sp s e) (f : v.ty.Contents (Elt F)) {off size : Fin s.rank → ℕ}
    {p : Prop} [Decidable p] (inb : p → ∀ a, off a + size a ≤ s.size a) (w : (h : p) → (Rect.unit off size (inb h)).shape.Idx → Elt F e) :
    v.read (Elt F) (if hc : p then v.writes (Elt F) f [⟨Rect.unit off size (inb hc), w hc⟩] else f)
      = if h : p then VecWindow.put (v.read (Elt F) f) off size (w h) else v.read (Elt F) f := by
  by_cases h : p
  · rw [dif_pos h, dif_pos h]; exact View.read_writes_cons_put v f (inb h) (w h) [] rfl
  · rw [dif_neg h, dif_neg h]

/-- The body at any point, on whole buffers: the inputs as they were; the first branch fills the two transformed inputs; the second
    puts a band of 200 rows into each of the three arrays of the second layer; the third writes the result's block. -/
theorem body_runs (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x1 .f32) (harg9 : arg9.IsWhole) (arg10 : Memref sig .tc .vmem S3x3 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x64 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S3x3 .f32) (harg17 : arg17.IsWhole) (arg18 : Memref sig .tc .vmem S200x64 .f32) (harg18 : arg18.IsWhole) (arg19 : Memref sig .tc .vmem S10000x128 .bf16) (harg19 : arg19.IsWhole) (arg20 : Memref sig .tc .vmem S10000x128 .bf16) (harg20 : arg20.IsWhole) (arg21 : Memref sig .tc .vmem S10000x64 .f32) (harg21 : arg21.IsWhole) (arg22 : Memref sig .tc .vmem S10000x64 .f32) (harg22 : arg22.IsWhole) (arg23 : Memref sig .tc .vmem S10000x64 .f32) (harg23 : arg23.IsWhole)
    (x1 : Vec F S200x10000 .f32) (x2 : Vec F S200x10000 .f32) (x3 : Vec F S10000x128 .f32) (x4 : Vec F S128x128 .f32) (x5 : Vec F S128x128 .f32) (x6 : Vec F S128x128 .f32) (x7 : Vec F S128x1 .f32) (x8 : Vec F S128x1 .f32) (x9 : Vec F S128x1 .f32) (x10 : Vec F S3x3 .f32) (x11 : Vec F S128x64 .f32) (x12 : Vec F S128x64 .f32) (x13 : Vec F S128x64 .f32) (x14 : Vec F S64x1 .f32) (x15 : Vec F S64x1 .f32) (x16 : Vec F S64x1 .f32) (x17 : Vec F S3x3 .f32) (d18 : Vec F S200x64 .f32) (d19 : Vec F S10000x128 .bf16) (d20 : Vec F S10000x128 .bf16) (d21 : Vec F S10000x64 .f32) (d22 : Vec F S10000x64 .f32) (d23 : Vec F S10000x64 .f32)
    (y18 : Vec F S200x64 .f32) (y19 : Vec F S10000x128 .bf16) (y20 : Vec F S10000x128 .bf16) (y21 : Vec F S10000x64 .f32) (y22 : Vec F S10000x64 .f32) (y23 : Vec F S10000x64 .f32)
    (h19 : y19 = if cond1 i = 1#1 then k0_pay2 x3 x4 else d19)
    (h20 : y20 = if cond1 i = 1#1 then k0_pay3 x3 x5 else d20)
    (h21 : y21 = if h : k0_cond2 i = 1#1 then VecWindow.put d21 (k0_off2 i) S200x64.size (bandL x1 x2 y19 y20 (VecWindow.window x3 (k0_off1 i) S200x128.size (k0_off1_inb i h)) x6 x7 x8 x9 x10 x11) else d21)
    (h22 : y22 = if h : k0_cond2 i = 1#1 then VecWindow.put d22 (k0_off2 i) S200x64.size (k0_pay4 (fea x1 x2 y19 y20 (VecWindow.window x3 (k0_off1 i) S200x128.size (k0_off1_inb i h)) x6 x7 x8 x9 x10) (k0_pay16 x12)) else d22)
    (h23 : y23 = if h : k0_cond2 i = 1#1 then VecWindow.put d23 (k0_off2 i) S200x64.size (k0_pay5 (fea x1 x2 y19 y20 (VecWindow.window x3 (k0_off1 i) S200x128.size (k0_off1_inb i h)) x6 x7 x8 x9 x10) x13) else d23)
    (h18 : y18 = if h : k0_cond3 i = 1#1 then outBlock x1 x2 y21 y22 (VecWindow.window y23 (k0_off3 i) S200x64.size (k0_off3_inb i h)) x14 x15 x16 x17 else d18)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare y18 ∗ owns (c : Thread nD τ) arg19 fullShare y19 ∗ owns (c : Thread nD τ) arg20 fullShare y20 ∗ owns (c : Thread nD τ) arg21 fullShare y21 ∗ owns (c : Thread nD τ) arg22 fullShare y22 ∗ owns (c : Thread nD τ) arg23 fullShare y23) -∗ K ⟨⟩))
      ⊢ wp frame (wpE (defs₀ (F := F)) Variants.none c none) Set.univ (cc0__mega_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mega_kernel_eq_skeleton]; unfold cc0__mega_kernel_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  subst hf1 hf2 hf3 hf4 hf5 hf6 hf7 hf8 hf9 hf10 hf11 hf12 hf13 hf14 hf15 hf16 hf17 hf18 hf19 hf20 hf21 hf22 hf23
  have r1 : ∀ h f, View.readAt (Elt F) arg1.view (Rect.unit ![0, 0] ![200, 10000] h).toLoadRect f = View.read (Elt F) arg1.view f := fun h f => View.readAt_full _ f h
  have r2 : ∀ h f, View.readAt (Elt F) arg2.view (Rect.unit ![0, 0] ![200, 10000] h).toLoadRect f = View.read (Elt F) arg2.view f := fun h f => View.readAt_full _ f h
  have r3 : ∀ h f, View.readAt (Elt F) arg3.view (Rect.unit ![0, 0] ![10000, 128] h).toLoadRect f = View.read (Elt F) arg3.view f := fun h f => View.readAt_full _ f h
  have r4 : ∀ h f, View.readAt (Elt F) arg4.view (Rect.unit ![0, 0] ![128, 128] h).toLoadRect f = View.read (Elt F) arg4.view f := fun h f => View.readAt_full _ f h
  have r5 : ∀ h f, View.readAt (Elt F) arg5.view (Rect.unit ![0, 0] ![128, 128] h).toLoadRect f = View.read (Elt F) arg5.view f := fun h f => View.readAt_full _ f h
  have r6 : ∀ h f, View.readAt (Elt F) arg6.view (Rect.unit ![0, 0] ![128, 128] h).toLoadRect f = View.read (Elt F) arg6.view f := fun h f => View.readAt_full _ f h
  have r7 : ∀ h f, View.readAt (Elt F) arg7.view (Rect.unit ![0, 0] ![128, 1] h).toLoadRect f = View.read (Elt F) arg7.view f := fun h f => View.readAt_full _ f h
  have r8 : ∀ h f, View.readAt (Elt F) arg8.view (Rect.unit ![0, 0] ![128, 1] h).toLoadRect f = View.read (Elt F) arg8.view f := fun h f => View.readAt_full _ f h
  have r9 : ∀ h f, View.readAt (Elt F) arg9.view (Rect.unit ![0, 0] ![128, 1] h).toLoadRect f = View.read (Elt F) arg9.view f := fun h f => View.readAt_full _ f h
  have r10 : ∀ h f, View.readAt (Elt F) arg10.view (Rect.unit ![0, 0] ![3, 3] h).toLoadRect f = View.read (Elt F) arg10.view f := fun h f => View.readAt_full _ f h
  have r11 : ∀ h f, View.readAt (Elt F) arg11.view (Rect.unit ![0, 0] ![128, 64] h).toLoadRect f = View.read (Elt F) arg11.view f := fun h f => View.readAt_full _ f h
  have r12 : ∀ h f, View.readAt (Elt F) arg12.view (Rect.unit ![0, 0] ![128, 64] h).toLoadRect f = View.read (Elt F) arg12.view f := fun h f => View.readAt_full _ f h
  have r13 : ∀ h f, View.readAt (Elt F) arg13.view (Rect.unit ![0, 0] ![128, 64] h).toLoadRect f = View.read (Elt F) arg13.view f := fun h f => View.readAt_full _ f h
  have r14 : ∀ h f, View.readAt (Elt F) arg14.view (Rect.unit ![0, 0] ![64, 1] h).toLoadRect f = View.read (Elt F) arg14.view f := fun h f => View.readAt_full _ f h
  have r15 : ∀ h f, View.readAt (Elt F) arg15.view (Rect.unit ![0, 0] ![64, 1] h).toLoadRect f = View.read (Elt F) arg15.view f := fun h f => View.readAt_full _ f h
  have r16 : ∀ h f, View.readAt (Elt F) arg16.view (Rect.unit ![0, 0] ![64, 1] h).toLoadRect f = View.read (Elt F) arg16.view f := fun h f => View.readAt_full _ f h
  have r17 : ∀ h f, View.readAt (Elt F) arg17.view (Rect.unit ![0, 0] ![3, 3] h).toLoadRect f = View.read (Elt F) arg17.view f := fun h f => View.readAt_full _ f h
  have r19 : ∀ h f, View.readAt (Elt F) arg19.view (Rect.unit ![0, 0] ![10000, 128] h).toLoadRect f = View.read (Elt F) arg19.view f := fun h f => View.readAt_full _ f h
  have r20 : ∀ h f, View.readAt (Elt F) arg20.view (Rect.unit ![0, 0] ![10000, 128] h).toLoadRect f = View.read (Elt F) arg20.view f := fun h f => View.readAt_full _ f h
  have r21 : ∀ h f, View.readAt (Elt F) arg21.view (Rect.unit ![0, 0] ![10000, 64] h).toLoadRect f = View.read (Elt F) arg21.view f := fun h f => View.readAt_full _ f h
  have r22 : ∀ h f, View.readAt (Elt F) arg22.view (Rect.unit ![0, 0] ![10000, 64] h).toLoadRect f = View.read (Elt F) arg22.view f := fun h f => View.readAt_full _ f h
  have w3 : ∀ h f, View.readAt (Elt F) arg3.view (Rect.unit (k0_off1 i) ![200, 128] h).toLoadRect f = VecWindow.window (View.read (Elt F) arg3.view f) (k0_off1 i) ![200, 128] h := fun _ _ => rfl
  have w23 : ∀ h f, View.readAt (Elt F) arg23.view (Rect.unit (k0_off3 i) ![200, 64] h).toLoadRect f = VecWindow.window (View.read (Elt F) arg23.view f) (k0_off3 i) ![200, 64] h := fun _ _ => rfl
  have q19 : View.read (Elt F) arg19.view (if hc : Scalar.cmpi .ne (Scalar.extui (Scalar.cmpi .eq (BitVec.ofNat 32 (i 0).val) 0#32) : BitVec 32) 0#32 = 1#1 then arg19.view.writes (Elt F) f19 [⟨Rect.unit ![0, 0] ![10000, 128] inb_S10000x128_S10000x128_0_0, k0_pay2 (View.read (Elt F) arg3.view f3) (View.read (Elt F) arg4.view f4)⟩] else f19) = y19 := (branch_full _ _ _ _).trans h19.symm
  have q20 : View.read (Elt F) arg20.view (if hc : Scalar.cmpi .ne (Scalar.extui (Scalar.cmpi .eq (BitVec.ofNat 32 (i 0).val) 0#32) : BitVec 32) 0#32 = 1#1 then arg20.view.writes (Elt F) f20 [⟨Rect.unit ![0, 0] ![10000, 128] inb_S10000x128_S10000x128_0_0, k0_pay3 (View.read (Elt F) arg3.view f3) (View.read (Elt F) arg5.view f5)⟩] else f20) = y20 := (branch_full _ _ _ _).trans h20.symm
  have q21 : View.read (Elt F) arg21.view (if hc : k0_cond2 i = 1#1 then arg21.view.writes (Elt F) f21 [⟨Rect.unit (k0_off2 i) ![200, 64] (k0_off2_inb i hc), bandL (View.read (Elt F) arg1.view f1) (View.read (Elt F) arg2.view f2) y19 y20 (VecWindow.window (View.read (Elt F) arg3.view f3) (k0_off1 i) ![200, 128] (k0_off1_inb i hc)) (View.read (Elt F) arg6.view f6) (View.read (Elt F) arg7.view f7) (View.read (Elt F) arg8.view f8) (View.read (Elt F) arg9.view f9) (View.read (Elt F) arg10.view f10) (View.read (Elt F) arg11.view f11)⟩] else f21) = y21 := (branch_put _ _ (k0_off2_inb i) _).trans h21.symm
  have q22 : View.read (Elt F) arg22.view (if hc : k0_cond2 i = 1#1 then arg22.view.writes (Elt F) f22 [⟨Rect.unit (k0_off2 i) ![200, 64] (k0_off2_inb i hc), k0_pay4 (fea (View.read (Elt F) arg1.view f1) (View.read (Elt F) arg2.view f2) y19 y20 (VecWindow.window (View.read (Elt F) arg3.view f3) (k0_off1 i) ![200, 128] (k0_off1_inb i hc)) (View.read (Elt F) arg6.view f6) (View.read (Elt F) arg7.view f7) (View.read (Elt F) arg8.view f8) (View.read (Elt F) arg9.view f9) (View.read (Elt F) arg10.view f10)) (k0_pay16 (View.read (Elt F) arg12.view f12))⟩] else f22) = y22 := (branch_put _ _ (k0_off2_inb i) _).trans h22.symm
  have q23 : View.read (Elt F) arg23.view (if hc : k0_cond2 i = 1#1 then arg23.view.writes (Elt F) f23 [⟨Rect.unit (k0_off2 i) ![200, 64] (k0_off2_inb i hc), k0_pay5 (fea (View.read (Elt F) arg1.view f1) (View.read (Elt F) arg2.view f2) y19 y20 (VecWindow.window (View.read (Elt F) arg3.view f3) (k0_off1 i) ![200, 128] (k0_off1_inb i hc)) (View.read (Elt F) arg6.view f6) (View.read (Elt F) arg7.view f7) (View.read (Elt F) arg8.view f8) (View.read (Elt F) arg9.view f9) (View.read (Elt F) arg10.view f10)) (View.read (Elt F) arg13.view f13)⟩] else f23) = y23 := (branch_put _ _ (k0_off2_inb i) _).trans h23.symm
  sl_exec
  sl_step
  iapply Hk
  isplitl [H1]; · iapply owns_read; iexact H1
  isplitl [H2]; · iapply owns_read; iexact H2
  isplitl [H3]; · iapply owns_read; iexact H3
  isplitl [H4]; · iapply owns_read; iexact H4
  isplitl [H5]; · iapply owns_read; iexact H5
  isplitl [H6]; · iapply owns_read; iexact H6
  isplitl [H7]; · iapply owns_read; iexact H7
  isplitl [H8]; · iapply owns_read; iexact H8
  isplitl [H9]; · iapply owns_read; iexact H9
  isplitl [H10]; · iapply owns_read; iexact H10
  isplitl [H11]; · iapply owns_read; iexact H11
  isplitl [H12]; · iapply owns_read; iexact H12
  isplitl [H13]; · iapply owns_read; iexact H13
  isplitl [H14]; · iapply owns_read; iexact H14
  isplitl [H15]; · iapply owns_read; iexact H15
  isplitl [H16]; · iapply owns_read; iexact H16
  isplitl [H17]; · iapply owns_read; iexact H17
  isplitl [H18]
  · iexists _; isplitr
    swap; · iexact H18
    ipureintro
    by_cases hc : k0_cond3 i = 1#1
    · rw [h18, dif_pos hc, dif_pos hc]
      refine (View.read_writes_full _ _ _ _ _).trans ?_
      sl_unfold_run_names; simp only [r1, r2, r3, r4, r5, r6, r7, r8, r9, r10, r11, r12, r13, r14, r15, r16, r17, r19, r20, r21, r22, w3, w23, q19, q20, q21, q22, q23]
    · rw [h18, dif_neg hc, dif_neg hc]
  isplitl [H19]
  · iexists _; isplitr
    swap; · iexact H19
    ipureintro
    refine (branch_full _ _ _ _).trans ?_; simp only [r3, r4, r5]; exact h19.symm
  isplitl [H20]
  · iexists _; isplitr
    swap; · iexact H20
    ipureintro
    refine (branch_full _ _ _ _).trans ?_; simp only [r3, r4, r5]; exact h20.symm
  isplitl [H21]
  · iexists _; isplitr
    swap; · iexact H21
    ipureintro
    by_cases hc : k0_cond2 i = 1#1
    · rw [h21, dif_pos hc, dif_pos hc]
      refine (View.read_writes_cons_put _ _ _ _ [] rfl).trans ?_
      sl_unfold_run_names; simp only [r1, r2, r3, r4, r5, r6, r7, r8, r9, r10, r11, r12, r13, r14, r15, r16, r17, r19, r20, r21, r22, w3, w23, q19, q20]
      rfl
    · rw [h21, dif_neg hc, dif_neg hc]
  isplitl [H22]
  · iexists _; isplitr
    swap; · iexact H22
    ipureintro
    by_cases hc : k0_cond2 i = 1#1
    · rw [h22, dif_pos hc, dif_pos hc]
      refine (View.read_writes_cons_put _ _ _ _ [] rfl).trans ?_
      sl_unfold_run_names; simp only [r1, r2, r3, r4, r5, r6, r7, r8, r9, r10, r11, r12, r13, r14, r15, r16, r17, r19, r20, r21, r22, w3, w23, q19, q20]
      rfl
    · rw [h22, dif_neg hc, dif_neg hc]
  iexists _; isplitr
  swap; · iexact H23
  ipureintro
  by_cases hc : k0_cond2 i = 1#1
  · rw [h23, dif_pos hc, dif_pos hc]
    refine (View.read_writes_cons_put _ _ _ _ [] rfl).trans ?_
    sl_unfold_run_names; simp only [r1, r2, r3, r4, r5, r6, r7, r8, r9, r10, r11, r12, r13, r14, r15, r16, r17, r19, r20, r21, r22, w3, w23, q19, q20]
    rfl
  · rw [h23, dif_neg hc, dif_neg hc]

end Cert.Proof.Body

end
-- ==== Proof.Bands.lean ====
/-
  The bands: what each point of the kernel computes, as functions of the launch's arrays; the grid's indices and conditions decided;
  and two lemmas on building a 10000-row array from fifty bands of 200 rows.
-/
module

public import proofs.«01_k».proof.Proof.Body
public import Idealize.ShloMosaic.Lib.Pipeline.FrameBody
public import Idealize.ShloMosaic.Lib.Pipeline.ArrRel
public import Idealize.ShloMosaic.Lib.Pipeline.ValueKit
public import Idealize.ShloMosaic.Lib.ValueIdxCore

@[expose] public section

noncomputable section

namespace Cert.Proof.Bands

open Cert.KernelIdeal Cert.KernelIdeal.Gen Cert.Proof.Body
open Idealize.ShloMosaic Idealize.ShloMosaic.TcCoe
open Idealize.SL Idealize.SL.Sem

/-! ## Fifty bands of 200 rows -/

/-- The 200 rows of an array from row `200 * (n % 50)` on. -/
def rows {α : Type} {k : ℕ} (n : ℕ) (x : (⟨2, ![10000, k]⟩ : Shape).Idx → α) : (⟨2, ![200, k]⟩ : Shape).Idx → α :=
  fun y => x (ValueIdx.ix2 ⟨200 * (n % 50) + (y 0).val, by have : (y 0).val < 200 := (y 0).isLt; omega⟩ (y 1))

/-- Fifty bands, one under the other. -/
def stack {α : Type} {k : ℕ} (b : ℕ → (⟨2, ![200, k]⟩ : Shape).Idx → α) : (⟨2, ![10000, k]⟩ : Shape).Idx → α :=
  fun i => b ((i 0).val / 200) (ValueIdx.ix2 ⟨(i 0).val % 200, Nat.mod_lt _ (by omega)⟩ (i 1))

/-- The stack's rows from `200 n` on are band `n`. -/
theorem rows_stack {α : Type} {k : ℕ} (b : ℕ → (⟨2, ![200, k]⟩ : Shape).Idx → α) (n : ℕ) : rows n (stack b) = b (n % 50) := by
  funext y
  have h : (y 0).val < 200 := (y 0).isLt
  show b ((200 * (n % 50) + (y 0).val) / 200) (ValueIdx.ix2 ⟨(200 * (n % 50) + (y 0).val) % 200, _⟩ (y 1)) = b (n % 50) y
  rw [show (200 * (n % 50) + (y 0).val) / 200 = n % 50 by omega]
  refine congrArg _ ((congrArg (fun a => ValueIdx.ix2 a (y 1)) (Fin.ext ?_)).trans (ValueIdx.eq_ix2 y).symm)
  show (200 * (n % 50) + (y 0).val) % 200 = (y 0).val
  omega

/-- Band `n` put under the bands before it. -/
theorem put_band {α : Type} {k : ℕ} (b : ℕ → (⟨2, ![200, k]⟩ : Shape).Idx → α) (d : (⟨2, ![10000, k]⟩ : Shape).Idx → α) (n : ℕ)
    (hd : ∀ i, (i 0).val < 200 * n → d i = stack b i) (i : (⟨2, ![10000, k]⟩ : Shape).Idx) (hi : (i 0).val < 200 * (n + 1)) :
    VecWindow.put (s := ⟨2, ![10000, k]⟩) d ![200 * n, 0] ![200, k] (b n) i = stack b i := by
  have h1 : (i 1).val < k := (i 1).isLt
  unfold VecWindow.put
  by_cases h : 200 * n ≤ (i 0).val
  · rw [dif_pos (Fin.forall_fin_two.mpr ⟨⟨h, by show _ < 200 * n + 200; omega⟩, ⟨Nat.zero_le _, by show _ < 0 + k; omega⟩⟩)]
    show _ = b ((i 0).val / 200) _
    rw [show (i 0).val / 200 = n by omega]
    refine congrArg _ (funext fun a => ?_)
    match a with
    | ⟨0, _⟩ => exact Fin.ext (by show (i 0).val - 200 * n = (i 0).val % 200; omega)
    | ⟨1, _⟩ => exact Fin.ext (by show (i 1).val - 0 = (i 1).val; omega)
  · rw [dif_neg (fun hh => h (hh 0).1)]
    exact hd i (by omega)

/-- A load of 200 rows at an offset equal to `200 (n % 50)`. -/
theorem window_rows {α : Type} {k : ℕ} (x : (⟨2, ![10000, k]⟩ : Shape).Idx → α) (off : Fin 2 → ℕ) (n : ℕ) (h : off = ![200 * (n % 50), 0])
    (inb : ∀ a, off a + (![200, k] : Fin 2 → ℕ) a ≤ (⟨2, ![10000, k]⟩ : Shape).size a) :
    VecWindow.window (s := ⟨2, ![10000, k]⟩) x off ![200, k] inb = rows n x := by
  subst h
  funext y
  refine congrArg x (funext fun a => ?_)
  match a with
  | ⟨0, _⟩ => exact Fin.ext (by show 200 * (n % 50) + 1 * (y 0).val = 200 * (n % 50) + (y 0).val; omega)
  | ⟨1, _⟩ => exact Fin.ext (by show 0 + 1 * (y 1).val = (y 1).val; omega)

/-! ## The grid -/

/-- The first branch runs at point 0 alone. -/
theorem cond1_iff : ∀ t : Fin grid0.N, cond1 (grid0.coords t) = 1#1 ↔ t.val = 0 := by decide +kernel
/-- The second branch runs in the first half. -/
theorem cond2_iff : ∀ t : Fin grid0.N, k0_cond2 (grid0.coords t) = 1#1 ↔ t.val < 50 := by decide +kernel
/-- The third branch runs in the second half. -/
theorem cond3_iff : ∀ t : Fin grid0.N, k0_cond3 (grid0.coords t) = 1#1 ↔ 50 ≤ t.val := by decide +kernel
/-- The rows a point loads and stores start at 200 times its number modulo 50. -/
theorem off1_eq : ∀ t : Fin grid0.N, k0_off1 (grid0.coords t) = ![200 * (t.val % 50), 0] := by decide +kernel
theorem off2_eq : ∀ t : Fin grid0.N, k0_off2 (grid0.coords t) = ![200 * (t.val % 50), 0] := by decide +kernel
theorem off3_eq : ∀ t : Fin grid0.N, k0_off3 (grid0.coords t) = ![200 * (t.val % 50), 0] := by decide +kernel
/-- Block indices: the two adjacencies' and the result's is the point's number modulo 50. -/
theorem index0 : ∀ t : Fin grid0.N, win0_0.index t = ![t.val % 50, 0] := by decide +kernel
theorem index1 : ∀ t : Fin grid0.N, win0_1.index t = ![t.val % 50, 0] := by decide +kernel
theorem index17 : ∀ t : Fin grid0.N, win0_17.index t = ![t.val % 50, 0] := by decide +kernel

variable {F : FTy → Type} [FloatOps F] [Named F]
variable (m : (ℓ : Loc nD τ sig) → Buf (Elt F) ℓ) (c : Dev nD)

/-! ## The windows' blocks -/

/-- The adjacencies' blocks are bands of the arrays. -/
theorem blk0 (t : Fin cfg0.N) : iblk m c 0 t = rows t.val (V m c main_arg1) := by
  funext y; unfold rows; blk_ext [iblk, V, index0 t]
theorem blk1 (t : Fin cfg0.N) : iblk m c 1 t = rows t.val (V m c main_arg2) := by
  funext y; unfold rows; blk_ext [iblk, V, index1 t]
theorem blk2 (t : Fin cfg0.N) : iblk m c 2 t = V m c main_arg0 := by
  funext y; blk_ext [iblk, V, show win0_2.index t = ![0, 0] from rfl]
theorem blk3 (t : Fin cfg0.N) : iblk m c 3 t = V m c main_arg4 := by
  funext y; blk_ext [iblk, V, show win0_3.index t = ![0, 0] from rfl]
theorem blk4 (t : Fin cfg0.N) : iblk m c 4 t = V m c main_arg5 := by
  funext y; blk_ext [iblk, V, show win0_4.index t = ![0, 0] from rfl]
theorem blk5 (t : Fin cfg0.N) : iblk m c 5 t = V m c main_arg6 := by
  funext y; blk_ext [iblk, V, show win0_5.index t = ![0, 0] from rfl]
theorem blk6 (t : Fin cfg0.N) : iblk m c 6 t = V m c main_arg7 := by
  funext y; blk_ext [iblk, V, show win0_6.index t = ![0, 0] from rfl]
theorem blk7 (t : Fin cfg0.N) : iblk m c 7 t = V m c main_arg8 := by
  funext y; blk_ext [iblk, V, show win0_7.index t = ![0, 0] from rfl]
theorem blk8 (t : Fin cfg0.N) : iblk m c 8 t = V m c main_arg9 := by
  funext y; blk_ext [iblk, V, show win0_8.index t = ![0, 0] from rfl]
theorem blk9 (t : Fin cfg0.N) : iblk m c 9 t = V m c main_arg10 := by
  funext y; blk_ext [iblk, V, show win0_9.index t = ![0, 0] from rfl]
theorem blk10 (t : Fin cfg0.N) : iblk m c 10 t = V m c main_arg11 := by
  funext y; blk_ext [iblk, V, show win0_10.index t = ![0, 0] from rfl]
theorem blk11 (t : Fin cfg0.N) : iblk m c 11 t = V m c main_arg12 := by
  funext y; blk_ext [iblk, V, show win0_11.index t = ![0, 0] from rfl]
theorem blk12 (t : Fin cfg0.N) : iblk m c 12 t = V m c main_arg13 := by
  funext y; blk_ext [iblk, V, show win0_12.index t = ![0, 0] from rfl]
theorem blk13 (t : Fin cfg0.N) : iblk m c 13 t = V m c main_arg14 := by
  funext y; blk_ext [iblk, V, show win0_13.index t = ![0, 0] from rfl]
theorem blk14 (t : Fin cfg0.N) : iblk m c 14 t = V m c main_arg15 := by
  funext y; blk_ext [iblk, V, show win0_14.index t = ![0, 0] from rfl]
theorem blk15 (t : Fin cfg0.N) : iblk m c 15 t = V m c main_arg16 := by
  funext y; blk_ext [iblk, V, show win0_15.index t = ![0, 0] from rfl]
theorem blk16 (t : Fin cfg0.N) : iblk m c 16 t = V m c main_arg17 := by
  funext y; blk_ext [iblk, V, show win0_16.index t = ![0, 0] from rfl]

/-! ## What the points compute -/

/-- The input times the low-pass and the high-pass weights of the first layer. -/
def u1 : Vec F S10000x128 .bf16 := k0_pay2 (V m c main_arg0) (V m c main_arg4)
def v1 : Vec F S10000x128 .bf16 := k0_pay3 (V m c main_arg0) (V m c main_arg5)

/-- The first layer's mixture on band `n`. -/
def mix (n : ℕ) : FVec F S200x128 .bf16 :=
  fea (rows n (V m c main_arg1)) (rows n (V m c main_arg2)) (u1 m c) (v1 m c) (rows n (V m c main_arg0)) (V m c main_arg6)
    (V m c main_arg7) (V m c main_arg8) (V m c main_arg9) (V m c main_arg10)

/-- Band `n` of the second layer's three arrays: the mixture times the low-pass, the high-pass and the full-pass weights. -/
def bandLow (n : ℕ) : S200x64.Idx → Elt F .f32 :=
  bandL (rows n (V m c main_arg1)) (rows n (V m c main_arg2)) (u1 m c) (v1 m c) (rows n (V m c main_arg0)) (V m c main_arg6)
    (V m c main_arg7) (V m c main_arg8) (V m c main_arg9) (V m c main_arg10) (V m c main_arg11)
def bandHigh (n : ℕ) : S200x64.Idx → Elt F .f32 := k0_pay4 (mix m c n) (k0_pay16 (V m c main_arg12))
def bandFull (n : ℕ) : S200x64.Idx → Elt F .f32 := k0_pay5 (mix m c n) (V m c main_arg13)

/-- Band `n` of the result. -/
def bandOut (n : ℕ) : S200x64.Idx → Elt F .f32 :=
  outBlock (rows n (V m c main_arg1)) (rows n (V m c main_arg2)) (stack (bandLow m c)) (stack (bandHigh m c))
    (bandFull m c (n % 50)) (V m c main_arg14) (V m c main_arg15) (V m c main_arg16) (V m c main_arg17)

end Cert.Proof.Bands

end
-- ==== Proof.Track.lean ====
/-
  The run of the kernel with exact contents tracked: what the scratch buffers hold between the points, the body's obligation at
  every point, and the launch, whose end has every argument as it was and the result's array made of the bands of the second half.
-/
module

public import proofs.«01_k».proof.Proof.Bands
public import Idealize.ShloMosaic.Lib.Pipeline.FrameBody
public import Idealize.ShloMosaic.Lib.Pipeline.ArrRel
public import Idealize.ShloMosaic.Lib.Pipeline.ValueKit
public import Idealize.ShloMosaic.Lib.ValueIdxCore

@[expose] public section

noncomputable section

namespace Cert.Proof.Track

open Cert.KernelIdeal Cert.KernelIdeal.Gen Cert.Proof.Body Cert.Proof.Bands
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- A scratch buffer held whole at some contents of which `p` holds. -/
def holding (c : Dev nD) (b : Ref sig .tc) (p : b.ty.Contents (Elt F) → Prop) : sProp 𝕄 :=
  iprop(∃ f, ⌜p f⌝ ∗ owns (c : Thread nD τ) (Memref.whole b) fullShare f)

/-- The rows of `g` built before point `n`: all of them from point 50 on. -/
def Built {k : ℕ} {α : Type} (g f : (⟨2, ![10000, k]⟩ : Shape).Idx → α) (n : ℕ) : Prop :=
  ∀ i, (i 0).val < 200 * min n 50 → f i = g i

/-- What holds between the points: after the first, the two transformed inputs; the bands built so far of the three arrays. -/
def inv (c : Dev nD) (n : ℕ) : sProp 𝕄 :=
  iprop((holding c cc0_scratch0 (fun f => n ≠ 0 → f = u1 m c)
    ∗ holding c cc0_scratch1 (fun f => n ≠ 0 → f = v1 m c)
    ∗ holding c cc0_scratch2 (fun f => Built (stack (bandLow m c)) f n)
    ∗ holding c cc0_scratch3 (fun f => Built (stack (bandHigh m c)) f n)
    ∗ holding c cc0_scratch4 (fun f => Built (stack (bandFull m c)) f n))
    ∗ ∃ r, prngReg c r)

/-- The relational proof data on core `c`: an input's buffer left as found; the result's, in the second half, at the point's band. -/
def rdat (c : Dev nD) : Pipeline.RDat τ (Elt F) Unit ℕ (UR sig nD τ) ℕ cfg0 c where
  A w := V m c (Pipeline.arrRef spec0 w)
  after w t Y X := ((cfg0.win w).isOut = false → X = Y) ∧ (w = 17 → 50 ≤ t.val → HEq X (bandOut m c t.val))
  Φ t := inv m c t.val
  q _ := fullShare
  owed _ := 0

theorem A_eq (c : Dev nD) (w : Fin cfg0.W) : (rdat m c).A w = V m c (Pipeline.arrRef spec0 w) := by
  dsimp only [rdat]

/-- A buffer handed back at the contents it was found at, for an input. -/
theorem kept (c : Dev nD) (w : Fin cfg0.W) (hw : w ≠ 17) (t : Fin cfg0.N) (Y : (cfg0.win w).block.Idx → Elt F (cfg0.win w).elt) :
    (owns (c : Thread nD τ) ((cfg0.win w).stage (cfg0.slots t w)) fullShare Y : sProp 𝕄)
      ⊢ iprop(∃ X, ⌜(rdat m c).after w t Y X⌝ ∗ owns (c : Thread nD τ) ((cfg0.win w).stage (cfg0.slots t w)) fullShare X) := by
  iintro H; iexists Y; isplitr
  · ipureintro; exact ⟨fun _ => rfl, fun h => absurd h hw⟩
  iexact H

/-- An input's buffer is found at its window's block. -/
theorem found (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (t : Fin cfg0.N) {Y : (cfg0.win w).block.Idx → Elt F (cfg0.win w).elt} (h : (rdat m c).Finds w t Y)
    {B : (cfg0.win w).block.Idx → Elt F (cfg0.win w).elt} (hB : ∀ d, (cfg0.win w).fill (cfg0.grid.coords t) d (iblk m c w t) = B) : Y = B := by
  obtain ⟨d, rfl⟩ := (rdat m c).finds_in_eq_fetched w hw hclip (fun _ _ _ h => h.1 hw) t Y h
  exact hB d

/-- A scratch buffer held whole is held at some contents, of which the weaker claim holds; -/
theorem holding_mono (c : Dev nD) (b : Ref sig .tc) (p : b.ty.Contents (Elt F) → Prop) (d : b.ty.Contents (Elt F)) (h : p d) :
    (owns (c : Thread nD τ) (Memref.whole b) fullShare d : sProp 𝕄) ⊢ holding c b p := by
  unfold holding
  iintro H; iexists d; isplitr
  · ipureintro; exact h
  iexact H

/-- and the other way about, at any contents. -/
theorem holding_any (c : Dev nD) (b : Ref sig .tc) (p : b.ty.Contents (Elt F) → Prop) :
    (holding c b p : sProp 𝕄) ⊢ iprop(∃ f : Buf (Elt F) ((c : Thread nD τ).loc b), ((c : Thread nD τ).loc b) ↦{fullShare} f) := by
  unfold holding
  simp only [owns_whole]
  iintro ⟨%f, -, H⟩; iexists f; iexact H

theorem holding_of (c : Dev nD) (b : Ref sig .tc) (p : b.ty.Contents (Elt F) → Prop) (h : ∀ d, p d) :
    iprop(∃ f : Buf (Elt F) ((c : Thread nD τ).loc b), ((c : Thread nD τ).loc b) ↦{fullShare} f) ⊢ (holding c b p : sProp 𝕄) := by
  unfold holding
  simp only [owns_whole]
  iintro ⟨%f, H⟩; iexists f; isplitr
  · ipureintro; exact h f
  iexact H

/-! ## What a point adds -/

/-- The transformed inputs after the first branch. -/
theorem step_first {α : Type} (t : Fin grid0.N) (x d : α) (h : t.val ≠ 0 → d = x) :
    (if cond1 (grid0.coords t) = 1#1 then x else d) = x := by
  by_cases h0 : cond1 (grid0.coords t) = 1#1
  · rw [if_pos h0]
  · rw [if_neg h0]; exact h fun e => h0 ((cond1_iff t).mpr e)

/-- One more band after the second branch. -/
theorem step_band {α : Type} (t : Fin grid0.N) (b : ℕ → S200x64.Idx → α) (d : S10000x64.Idx → α) (h : Built (stack b) d t.val)
    (w : k0_cond2 (grid0.coords t) = 1#1 → S200x64.Idx → α) (hw : ∀ h, w h = b t.val) :
    Built (stack b) (if h : k0_cond2 (grid0.coords t) = 1#1 then VecWindow.put d (k0_off2 (grid0.coords t)) S200x64.size (w h) else d) (t.val + 1) := by
  intro i hi
  by_cases h2 : k0_cond2 (grid0.coords t) = 1#1
  · have ht := (cond2_iff t).mp h2
    rw [dif_pos h2, hw h2, off2_eq t, Nat.mod_eq_of_lt ht]
    exact put_band b d t.val (fun j hj => h j (by omega)) i (by omega)
  · have ht : ¬ t.val < 50 := fun e => h2 ((cond2_iff t).mpr e)
    rw [dif_neg h2]; exact h i (by omega)

/-- From point 50 on the arrays are whole. -/
theorem Built.all {k : ℕ} {α : Type} {g f : (⟨2, ![10000, k]⟩ : Shape).Idx → α} {n : ℕ} (h : Built g f n) (hn : 50 ≤ n) : f = g := by
  funext i
  have : (i 0).val < 10000 := (i 0).isLt
  exact h i (by omega)

/-- The body at any point: `body_runs` at the blocks found there. -/
theorem body_obligation (c : Dev nD) : (rdat m c).BodyObligation (defs₀ (F := F)) Variants.none () Set.univ := by
  intro t Y hY
  have e0 : Y 0 = rows t.val (V m c main_arg1) := found m c 0 rfl (fun _ _ _ => rfl) t (hY 0) fun _ => blk0 m c t
  have e1 : Y 1 = rows t.val (V m c main_arg2) := found m c 1 rfl (fun _ _ _ => rfl) t (hY 1) fun _ => blk1 m c t
  have e2 : Y 2 = V m c main_arg0 := found m c 2 rfl (fun _ _ _ => rfl) t (hY 2) fun _ => blk2 m c t
  have e3 : Y 3 = V m c main_arg4 := found m c 3 rfl (fun _ _ _ => rfl) t (hY 3) fun _ => blk3 m c t
  have e4 : Y 4 = V m c main_arg5 := found m c 4 rfl (fun _ _ _ => rfl) t (hY 4) fun _ => blk4 m c t
  have e5 : Y 5 = V m c main_arg6 := found m c 5 rfl (fun _ _ _ => rfl) t (hY 5) fun _ => blk5 m c t
  have e6 : Y 6 = V m c main_arg7 := found m c 6 rfl (fun _ _ _ => rfl) t (hY 6) fun _ => blk6 m c t
  have e7 : Y 7 = V m c main_arg8 := found m c 7 rfl (fun _ _ _ => rfl) t (hY 7) fun _ => blk7 m c t
  have e8 : Y 8 = V m c main_arg9 := found m c 8 rfl (fun _ _ _ => rfl) t (hY 8) fun _ => blk8 m c t
  have e9 : Y 9 = V m c main_arg10 := found m c 9 rfl (fun _ _ _ => rfl) t (hY 9) fun _ => blk9 m c t
  have e10 : Y 10 = V m c main_arg11 := found m c 10 rfl (fun _ _ _ => rfl) t (hY 10) fun _ => blk10 m c t
  have e11 : Y 11 = V m c main_arg12 := found m c 11 rfl (fun _ _ _ => rfl) t (hY 11) fun _ => blk11 m c t
  have e12 : Y 12 = V m c main_arg13 := found m c 12 rfl (fun _ _ _ => rfl) t (hY 12) fun _ => blk12 m c t
  have e13 : Y 13 = V m c main_arg14 := found m c 13 rfl (fun _ _ _ => rfl) t (hY 13) fun _ => blk13 m c t
  have e14 : Y 14 = V m c main_arg15 := found m c 14 rfl (fun _ _ _ => rfl) t (hY 14) fun _ => blk14 m c t
  have e15 : Y 15 = V m c main_arg16 := found m c 15 rfl (fun _ _ _ => rfl) t (hY 15) fun _ => blk15 m c t
  have e16 : Y 16 = V m c main_arg17 := found m c 16 rfl (fun _ _ _ => rfl) t (hY 16) fun _ => blk16 m c t
  rw [bigSep_W0, bigSep_W0, show defs₀ (F := F) .tc cfg0.body (cfg0.bodyArgs t (cfg0.slots t)) = bodyAt0 t by unfold defs₀; rw [Defs.onTc_tc]]
  rw [show (rdat m c).Φ t.succ = inv m c (t.val + 1) from rfl,
    show (rdat m c).owesAt () t.succ = (rdat m c).owesAt () t.castSucc from rfl,
    show (rdat m c).Φ t.castSucc = inv m c t.val from rfl]
  unfold inv holding
  iintro ⟨⟨⟨⟨%s0, %p0, S0⟩, ⟨%s1, %p1, S1⟩, ⟨%s2, %p2, S2⟩, ⟨%s3, %p3, S3⟩, ⟨%s4, %p4, S4⟩⟩, Hg⟩, Ho, H0, H1, H2, H3, H4, H5, H6, H7, H8, H9, H10, H11, H12, H13, H14, H15, H16, H17⟩
  iapply (body_runs c (grid0.coords t) _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) (Y 17) s0 s1 s2 s3 s4 _ _ _ _ _ _ rfl rfl rfl rfl rfl rfl _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, S0, S1, S2, S3, S4⟩
  have q0 := step_first t (k0_pay2 (Y 2) (Y 3)) s0 (fun h => (p0 h).trans (by rw [e2, e3]; rfl))
  have q1 := step_first t (k0_pay3 (Y 2) (Y 4)) s1 (fun h => (p1 h).trans (by rw [e2, e4]; rfl))
  have r0 : k0_pay2 (Y 2) (Y 3) = u1 m c := by rw [e2, e3]; rfl
  have r1 : k0_pay3 (Y 2) (Y 4) = v1 m c := by rw [e2, e4]; rfl
  have hx : ∀ h, VecWindow.window (s := S10000x128) (V m c main_arg0) (k0_off1 (grid0.coords t)) S200x128.size h = rows t.val (V m c main_arg0) :=
    fun h => window_rows _ _ _ (off1_eq t) h
  have q2 := step_band t (bandLow m c) s2 p2 (fun h => bandL (Y 0) (Y 1) (if cond1 (grid0.coords t) = 1#1 then k0_pay2 (Y 2) (Y 3) else s0) (if cond1 (grid0.coords t) = 1#1 then k0_pay3 (Y 2) (Y 4) else s1) (VecWindow.window (Y 2) (k0_off1 (grid0.coords t)) S200x128.size (k0_off1_inb (grid0.coords t) h)) (Y 5) (Y 6) (Y 7) (Y 8) (Y 9) (Y 10))
    (fun h => by rw [q0, q1, r0, r1, e0, e1, e2, hx, e5, e6, e7, e8, e9, e10]; rfl)
  have q3 := step_band t (bandHigh m c) s3 p3 (fun h => k0_pay4 (fea (Y 0) (Y 1) (if cond1 (grid0.coords t) = 1#1 then k0_pay2 (Y 2) (Y 3) else s0) (if cond1 (grid0.coords t) = 1#1 then k0_pay3 (Y 2) (Y 4) else s1) (VecWindow.window (Y 2) (k0_off1 (grid0.coords t)) S200x128.size (k0_off1_inb (grid0.coords t) h)) (Y 5) (Y 6) (Y 7) (Y 8) (Y 9)) (k0_pay16 (Y 11)))
    (fun h => by rw [q0, q1, r0, r1, e0, e1, e2, hx, e5, e6, e7, e8, e9, e11]; rfl)
  have q4 := step_band t (bandFull m c) s4 p4 (fun h => k0_pay5 (fea (Y 0) (Y 1) (if cond1 (grid0.coords t) = 1#1 then k0_pay2 (Y 2) (Y 3) else s0) (if cond1 (grid0.coords t) = 1#1 then k0_pay3 (Y 2) (Y 4) else s1) (VecWindow.window (Y 2) (k0_off1 (grid0.coords t)) S200x128.size (k0_off1_inb (grid0.coords t) h)) (Y 5) (Y 6) (Y 7) (Y 8) (Y 9)) (Y 12))
    (fun h => by rw [q0, q1, r0, r1, e0, e1, e2, hx, e5, e6, e7, e8, e9, e12]; rfl)
  isplitl [S0 S1 S2 S3 S4 Hg]
  · isplitr [Hg]
    · isplitl [S0]
      · iexists _; isplitr; swap; · iexact S0
        ipureintro; exact fun _ => q0.trans r0
      isplitl [S1]
      · iexists _; isplitr; swap; · iexact S1
        ipureintro; exact fun _ => q1.trans r1
      isplitl [S2]
      · iexists _; isplitr; swap; · iexact S2
        ipureintro; exact q2
      isplitl [S3]
      · iexists _; isplitr; swap; · iexact S3
        ipureintro; exact q3
      iexists _; isplitr; swap; · iexact S4
      ipureintro; exact q4
    iexact Hg
  isplitl [Ho]; · iexact Ho
  isplitl [H0]; · iapply (kept m c 0 (by decide) t (Y 0)); iexact H0
  isplitl [H1]; · iapply (kept m c 1 (by decide) t (Y 1)); iexact H1
  isplitl [H2]; · iapply (kept m c 2 (by decide) t (Y 2)); iexact H2
  isplitl [H3]; · iapply (kept m c 3 (by decide) t (Y 3)); iexact H3
  isplitl [H4]; · iapply (kept m c 4 (by decide) t (Y 4)); iexact H4
  isplitl [H5]; · iapply (kept m c 5 (by decide) t (Y 5)); iexact H5
  isplitl [H6]; · iapply (kept m c 6 (by decide) t (Y 6)); iexact H6
  isplitl [H7]; · iapply (kept m c 7 (by decide) t (Y 7)); iexact H7
  isplitl [H8]; · iapply (kept m c 8 (by decide) t (Y 8)); iexact H8
  isplitl [H9]; · iapply (kept m c 9 (by decide) t (Y 9)); iexact H9
  isplitl [H10]; · iapply (kept m c 10 (by decide) t (Y 10)); iexact H10
  isplitl [H11]; · iapply (kept m c 11 (by decide) t (Y 11)); iexact H11
  isplitl [H12]; · iapply (kept m c 12 (by decide) t (Y 12)); iexact H12
  isplitl [H13]; · iapply (kept m c 13 (by decide) t (Y 13)); iexact H13
  isplitl [H14]; · iapply (kept m c 14 (by decide) t (Y 14)); iexact H14
  isplitl [H15]; · iapply (kept m c 15 (by decide) t (Y 15)); iexact H15
  isplitl [H16]; · iapply (kept m c 16 (by decide) t (Y 16)); iexact H16
  iexists _; isplitr; swap; · iexact H17
  ipureintro
  refine ⟨fun h => absurd h (by decide), fun _ h50 => heq_of_eq ?_⟩
  rw [dif_pos ((cond3_iff t).mpr h50), q2.all (by omega), q3.all (by omega), q4.all (by omega), e0, e1, e13, e14, e15, e16]
  unfold bandOut
  rw [← rows_stack (bandFull m c) t.val]
  exact congrArg (fun z => outBlock _ _ _ _ z _ _ _ _) (window_rows _ _ _ (off3_eq t) _)

/-! ## The launch -/

-- the launch theorem's implicit arguments are found by unifying its conclusion with this one, which takes unfolding plain
-- definitions in a metavariable's type
set_option backward.isDefEq.respectTransparency.types false in
/-- Every execution ends with each window's array at contents the proof data's relation allows, every other unscoped buffer as the
    launch found it, and every semaphore counter at zero. -/
theorem run_tracked : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hin := fun c => by
      rw [show (rdat m c).Φ 0 = inv m c 0 from rfl]
      unfold Pipeline.ΦA inv
      rw [scopedRest0_eq]
      iintro ⟨⟨S0, S1, S2, S3, S4⟩, Hg⟩
      isplitr [Hg]
      · isplitl [S0]; · iapply (holding_of c cc0_scratch0 _ fun _ h => absurd rfl h); iexact S0
        isplitl [S1]; · iapply (holding_of c cc0_scratch1 _ fun _ h => absurd rfl h); iexact S1
        isplitl [S2]; · iapply (holding_of c cc0_scratch2 _ fun _ _ h => absurd h (by simp)); iexact S2
        isplitl [S3]; · iapply (holding_of c cc0_scratch3 _ fun _ _ h => absurd h (by simp)); iexact S3
        iapply (holding_of c cc0_scratch4 _ fun _ _ h => absurd h (by simp)); iexact S4
      iexact Hg)
    (hout := fun c => by
      rw [show (rdat m c).Φ (Fin.last cfg0.N) = inv m c cfg0.N from rfl]
      unfold Pipeline.ΦA inv
      rw [scopedRest0_eq]
      iintro ⟨⟨S0, S1, S2, S3, S4⟩, Hg⟩
      isplitr [Hg]
      · isplitl [S0]; · iapply holding_any; iexact S0
        isplitl [S1]; · iapply holding_any; iexact S1
        isplitl [S2]; · iapply holding_any; iexact S2
        isplitl [S3]; · iapply holding_any; iexact S3
        iapply holding_any; iexact S4
      iexact Hg)

end Cert.Proof.Track

end
-- ==== Proof.Result.lean ====
/-
  What the kernel's result array holds at the end: the bands of the second half, one under the other.
-/
module

public import proofs.«01_k».proof.Proof.Track
public import Idealize.ShloMosaic.Lib.Pipeline.FrameBody
public import Idealize.ShloMosaic.Lib.Pipeline.ArrRel
public import Idealize.ShloMosaic.Lib.Pipeline.ValueKit
public import Idealize.ShloMosaic.Lib.ValueIdxCore

@[expose] public section

noncomputable section

namespace Cert.Proof.Result

open Cert.KernelIdeal Cert.KernelIdeal.Gen Cert.Proof.Body Cert.Proof.Bands Cert.Proof.Track
open Idealize.ShloMosaic Idealize.ShloMosaic.TcCoe
open Idealize.SL Idealize.SL.RA Idealize.SL.Sem
open Idealize.ShloMosaic.Rounds

variable {F : FTy → Type} [FloatOps F] [Named F]

variable (m : (ℓ : Loc nD τ sig) → Buf (Elt F) ℓ) (ρ : Dev nD → PrngReg)

/-- If from point `n₀` on every write-back is its block of one array `G`, an element some of them covers ends at `G`'s, whatever
    was written before `n₀`. -/
theorem settled {c : Dev nD} (dat : Pipeline.Dat τ (Elt F) Unit ℕ (UR sig nD τ) ℕ cfg0 c) (w : Fin cfg0.W)
    (G : Buf (Elt F) ((cfg0.win w).arr.view.loc (c.tc : Thread nD τ))) (n₀ : ℕ) (hf : ∀ t, (cfg0.win w).flush t = true)
    (hG : ∀ t : Fin cfg0.N, n₀ ≤ t.val → dat.flushed w t = ((cfg0.win w).blk t).view.read (Elt F) G)
    (i : ((cfg0.win w).arr.view.loc (c.tc : Thread nD τ)).2.ty.Idx) (t : Fin cfg0.N) (ht : n₀ ≤ t.val)
    (hi : i ∈ ((cfg0.win w).blk t).view.set) (k : ℕ) (hk : t.val + 1 + k ≤ cfg0.N) : dat.arrAt w (t.val + 1 + k) i = G i := by
  induction k with
  | zero =>
    rw [Nat.add_zero, dat.arrAt_succ_apply, dif_pos t.isLt, if_pos (hf _), hG _ ht, View.write_read_eq_piecewise]
    exact Finset.piecewise_eq_of_mem _ _ _ (by rw [View.setOn_univ]; exact hi)
  | succ k ih =>
    have hn : t.val + 1 + k < cfg0.N := by omega
    rw [← Nat.add_assoc, dat.arrAt_succ_apply, dif_pos hn, if_pos (hf _), hG ⟨_, hn⟩ (by show n₀ ≤ t.val + 1 + k; omega), View.write_read_eq_piecewise]
    by_cases h : i ∈ ((cfg0.win w).blk ⟨_, hn⟩).view.setOn Finset.univ
    · exact Finset.piecewise_eq_of_mem _ _ _ h
    · exact (Finset.piecewise_eq_of_notMem _ _ _ h).trans (ih (by omega))

/-- A band is told by its number modulo 50. -/
theorem bandOut_mod (c : Dev nD) (n : ℕ) : bandOut m c (n % 50) = bandOut m c n := by
  unfold bandOut rows
  simp only [Nat.mod_mod]

/-- The block of any array of the result's shape at a point is the band there. -/
theorem blk17 {c : Dev nD} (G : S10000x64.Idx → Elt F .f32) (t : Fin cfg0.N) : ((cfg0.win 17).blk t).view.read (Elt F) G = rows t.val G := by
  funext y; unfold rows; blk_ext [index17 t]

/-- Every element of the result is in the block of a point of the second half. -/
theorem covered (i : S10000x64.Idx) : ∃ t : Fin cfg0.N, 50 ≤ t.val ∧ i ∈ ((cfg0.win 17).blk t).view.set := by
  have h0 : (i 0).val < 10000 := (i 0).isLt
  have h1 : (i 1).val < 64 := (i 1).isLt
  have hN : cfg0.N = 100 := N_0
  refine ⟨⟨50 + (i 0).val / 200, by omega⟩, by show 50 ≤ 50 + _; omega, ?_⟩
  let t : Fin cfg0.N := ⟨50 + (i 0).val / 200, by omega⟩
  have e : ((cfg0.win 17).blk t).view.emb (ValueIdx.ix2 ⟨(i 0).val % 200, Nat.mod_lt _ (by omega)⟩ ⟨(i 1).val, h1⟩ : S200x64.Idx) = i := by
    blk_ext [index17 t, t]
  have k := View.emb_mem_set ((cfg0.win 17).blk t).view (ValueIdx.ix2 ⟨(i 0).val % 200, Nat.mod_lt _ (by omega)⟩ ⟨(i 1).val, h1⟩ : S200x64.Idx)
  rw [e] at k
  exact k

/-- THE RESULT: after the run the result's array is the bands of the second half, one under the other. -/
theorem array_eq (c : Dev nD) {G : Buf (Elt F) ((cfg0.win 17).arr.view.loc (c.tc : Thread nD τ))} (h : (rdat m c).ArrAt 17 cfg0.N G) :
    G = stack (bandOut m c) := by
  obtain ⟨X, hX, hA⟩ := h.exists_exact
  have e := hA (Function.update (fun _ _ _ => Classical.arbitrary _) 17 X) fun u _ _ => by rw [Function.update_self]
  rw [e]
  funext i
  obtain ⟨t, ht, hi⟩ := covered i
  have hN : t.val + 1 + (cfg0.N - (t.val + 1)) = cfg0.N := by have := t.isLt; omega
  have key := settled ((rdat m c).withAfter (Function.update (fun _ _ _ => Classical.arbitrary _) 17 X)) 17 (stack (bandOut m c)) 50 flush0_17
    (fun u hu => by
      obtain ⟨Y, -, hY⟩ := hX u u.isLt (flush0_17 u)
      have hX' : X u = bandOut m c u.val := eq_of_heq (hY.2 rfl hu)
      rw [blk17 (c := c), rows_stack, bandOut_mod, ← hX']
      unfold Pipeline.Dat.flushed
      rw [Pipeline.RDat.withAfter_after, Function.update_self]) i t ht hi _ hN.le
  rw [hN] at key
  exact key

/-- THE FRAME: from any memory with zero counters the kernel runs to its end, its result the bands of the second half, its eighteen
    arguments as they were and every counter at zero. -/
theorem run : θ_run defs (onTc (τ := τ) (main (F := F))) ⟨m, fun _ => 0, ρ⟩ (fun r => (∀ c : Dev nD,
      r.2.mem ((c.tc : Thread nD τ).loc main_v0) = stack (bandOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c =>
    ⟨array_eq m c ((h.1 c).1 17), (h.1.arr_in c 2 rfl).trans (A_eq m c 2), (h.1.arr_in c 0 rfl).trans (A_eq m c 0), (h.1.arr_in c 1 rfl).trans (A_eq m c 1), (h.1 c).2 main_arg3 (Pipeline.mem_restRefs_of main_arg3 (by decide) (by decide)), (h.1.arr_in c 3 rfl).trans (A_eq m c 3), (h.1.arr_in c 4 rfl).trans (A_eq m c 4), (h.1.arr_in c 5 rfl).trans (A_eq m c 5), (h.1.arr_in c 6 rfl).trans (A_eq m c 6), (h.1.arr_in c 7 rfl).trans (A_eq m c 7), (h.1.arr_in c 8 rfl).trans (A_eq m c 8), (h.1.arr_in c 9 rfl).trans (A_eq m c 9), (h.1.arr_in c 10 rfl).trans (A_eq m c 10), (h.1.arr_in c 11 rfl).trans (A_eq m c 11), (h.1.arr_in c 12 rfl).trans (A_eq m c 12), (h.1.arr_in c 13 rfl).trans (A_eq m c 13), (h.1.arr_in c 14 rfl).trans (A_eq m c 14), (h.1.arr_in c 15 rfl).trans (A_eq m c 15), (h.1.arr_in c 16 rfl).trans (A_eq m c 16)⟩,
    h.2⟩) (run_tracked m ρ)

end Cert.Proof.Result

end
-- ==== Proof.Attention.lean ====
/-
  The mixture of three channels by their softmax, in two spellings, over the extended reals. No program is mentioned here.
-/
module

public import Idealize.ShloMosaic.PureOps.Ideal.Laws

@[expose] public section

noncomputable section

namespace Cert.Proof.Attention

open Idealize.ShloMosaic

/-- A sum of three channels, each times its weight. -/
def blend (w o : Fin 3 → EReal) : EReal := w 0 * o 0 + w 1 * o 1 + w 2 * o 2

/-- The greatest of three logits. -/
def top (l : Fin 3 → EReal) : EReal := max (l 0) (max (l 1) (l 2))

/-- The exponential of a logit less the greatest one. -/
def weight (l : Fin 3 → EReal) (k : Fin 3) : EReal := Ideal.exp (l k - top l)

/-- The three exponentials' sum. -/
def total (l : Fin 3 → EReal) : EReal := weight l 0 + weight l 1 + weight l 2

/-- The mixture as the kernel spells it: each exponential times `3 / total`. -/
def mixture (l o : Fin 3 → EReal) : EReal := blend (fun k => weight l k * Ideal.div 3 (total l)) o

/-- The mixture as the reference spells it: three times the channels weighted by the softmax. -/
def softmaxMix (l o : Fin 3 → EReal) : EReal := 3 * blend (fun k => Ideal.div (weight l k) (total l)) o

theorem le_top' (l : Fin 3 → EReal) (k : Fin 3) : l k ≤ top l := by
  unfold top; fin_cases k <;> simp

theorem top_mem (l : Fin 3 → EReal) : ∃ k, top l = l k := by
  unfold top
  rcases max_choice (l 1) (l 2) with h | h <;> rw [h]
  · rcases max_choice (l 0) (l 1) with h | h <;> exact ⟨_, h⟩
  · rcases max_choice (l 0) (l 2) with h | h <;> exact ⟨_, h⟩

/-- Where the greatest logit is infinite all three exponentials are zero; otherwise they are nonnegative reals, one of them `1`. -/
theorem weights (l : Fin 3 → EReal) :
    (∀ k, weight l k = 0) ∨ ∃ w : Fin 3 → ℝ, (∀ k, weight l k = (w k : EReal)) ∧ (∀ k, 0 ≤ w k) ∧ 0 < w 0 + w 1 + w 2 := by
  obtain ⟨j, hj⟩ := top_mem l
  unfold weight
  rcases h : top l with _ | _ | r
  · left
    intro k
    have hk : l k = ⊥ := le_bot_iff.mp ((le_top' l k).trans_eq h)
    rw [hk]; rfl
  · left
    intro k
    have e : l k - (⊤ : EReal) = ⊥ := by rcases l k with _ | _ | x <;> rfl
    exact (congrArg Ideal.exp e).trans Ideal.exp_bot
  · right
    have hw : ∀ k, ∃ x : ℝ, Ideal.exp (l k - (r : EReal)) = (x : EReal) ∧ 0 ≤ x := by
      intro k
      have hk : l k ≤ (r : EReal) := (le_top' l k).trans_eq h
      rcases e : l k with _ | _ | x
      · exact ⟨0, rfl, le_rfl⟩
      · rw [e] at hk; exact absurd hk (by exact not_le.mpr (EReal.coe_lt_top r))
      · exact ⟨Real.exp (x - r), rfl, (Real.exp_pos _).le⟩
    choose w hw h0 using hw
    refine ⟨w, hw, h0, ?_⟩
    have hj1 : w j = 1 := by
      have e := hw j
      rw [← hj, h] at e
      have e' : Ideal.exp ((r : EReal) - (r : EReal)) = ((Real.exp (r - r) : ℝ) : EReal) := rfl
      change Ideal.exp ((r : EReal) - (r : EReal)) = _ at e
      rw [e', sub_self, Real.exp_zero] at e
      exact (EReal.coe_eq_coe_iff.mp e).symm
    have a0 := h0 0; have a1 := h0 1; have a2 := h0 2
    fin_cases j <;> simp only [Fin.zero_eta, Fin.mk_one, Fin.reduceFinMk] at hj1 <;> linarith

theorem three : (3 : EReal) = ((3 : ℝ) : EReal) := rfl

/-- Where the exponentials are not all zero and the channels are nonnegative, the two spellings agree. -/
theorem mixture_eq_of_ne (l o : Fin 3 → EReal) (ho : ∀ k, 0 ≤ o k) (hl : ¬ ∀ k, weight l k = 0) : mixture l o = softmaxMix l o := by
  rcases weights l with h | ⟨w, hw, h0, hs⟩
  · exact absurd h hl
  have ht : total l = ((w 0 + w 1 + w 2 : ℝ) : EReal) := by unfold total; rw [hw, hw, hw]; norm_cast
  have key : ∀ k, weight l k * Ideal.div 3 (total l) * o k = 3 * (Ideal.div (weight l k) (total l) * o k) := by
    intro k
    rw [ht, hw, Ideal.div_coe hs.ne', Ideal.div_coe hs.ne', ← mul_assoc, ← mul_assoc, ← mul_assoc, mul_comm (w k : EReal) 3]
  have nn : ∀ k, 0 ≤ Ideal.div (weight l k) (total l) * o k := by
    intro k
    refine mul_nonneg ?_ (ho k)
    rw [ht, hw, Ideal.div_coe hs.ne']
    exact mul_nonneg (by exact_mod_cast h0 k) (by have := (one_div_pos.mpr hs).le; exact_mod_cast this)
  unfold mixture softmaxMix blend
  rw [EReal.left_distrib_of_nonneg (add_nonneg (nn 0) (nn 1)) (nn 2), EReal.left_distrib_of_nonneg (nn 0) (nn 1), key, key, key]

theorem bot_mul_nonpos {x : EReal} (h : 0 ≤ x) : ⊥ * x ≤ 0 := by
  rcases h.eq_or_lt with h | h
  · rw [← h, mul_zero]
  · rw [EReal.bot_mul_of_pos h]; exact bot_le

/-- The part above zero of the two spellings agrees for any logits: where the exponentials are all zero the kernel's mixture is zero
    and the reference's is not above it. -/
theorem max_mixture (l o : Fin 3 → EReal) (ho : ∀ k, 0 ≤ o k) : max (mixture l o) 0 = max (softmaxMix l o) 0 := by
  by_cases h : ∀ k, weight l k = 0
  · have ht : total l = 0 := by unfold total; rw [h, h, h]; simp
    have hm : mixture l o = 0 := by unfold mixture blend; simp only [h, zero_mul, add_zero]
    have hd : Ideal.div 0 0 = (⊥ : EReal) := by unfold Ideal.div; rw [if_pos rfl, if_neg (lt_irrefl _)]
    have hn : blend (fun k => Ideal.div (weight l k) (total l)) o ≤ 0 := by
      unfold blend
      simp only [h, ht, hd]
      exact add_nonpos (add_nonpos (bot_mul_nonpos (ho 0)) (bot_mul_nonpos (ho 1))) (bot_mul_nonpos (ho 2))
    have hs : softmaxMix l o ≤ 0 := by
      unfold softmaxMix
      rcases e : blend (fun k => Ideal.div (weight l k) (total l)) o with _ | _ | x
      · rw [three]; exact (EReal.coe_mul_bot_of_pos (by norm_num)).trans_le bot_le
      · rw [e] at hn; exact absurd hn (by exact not_le.mpr EReal.zero_lt_top)
      · rw [e] at hn
        have hx : x ≤ 0 := EReal.coe_nonpos.mp hn
        rw [three]
        show (((3 : ℝ) * x : ℝ) : EReal) ≤ 0
        exact_mod_cast (by linarith : (3 : ℝ) * x ≤ 0)
    rw [hm, max_self, max_eq_right hs]
  · rw [mixture_eq_of_ne l o ho h]

/-- Real logits have exponentials that are not all zero. -/
theorem weight_ne (l : Fin 3 → EReal) (h : ∀ k, ∃ r : ℝ, l k = (r : EReal)) : ¬ ∀ k, weight l k = 0 := by
  intro h0
  obtain ⟨j, hj⟩ := top_mem l
  obtain ⟨r, hr⟩ := h j
  have e := h0 j
  unfold weight at e
  rw [hj, hr] at e
  have e' : Ideal.exp ((r : EReal) - (r : EReal)) = ((Real.exp (r - r) : ℝ) : EReal) := rfl
  rw [e'] at e
  exact (Real.exp_pos _).ne' (by exact_mod_cast e)

/-- A sigmoid is a real, whatever it is taken of. -/
theorem logistic_real (x : EReal) : ∃ r : ℝ, Ideal.logistic x = (r : EReal) := by
  rcases x with _ | _ | x
  · exact ⟨0, Ideal.logistic_bot⟩
  · exact ⟨1, Ideal.logistic_top⟩
  · exact ⟨_, Ideal.logistic_coe x⟩

/-- The logits of a row: its three sigmoids times the attention matrix, a third of each. -/
def logits (s : Fin 3 → EReal) (a : Fin 3 → Fin 3 → EReal) (k : Fin 3) : EReal :=
  (s 0 * a 0 k + s 1 * a 1 k + s 2 * a 2 k) * ((1 / 3 : ℝ) : EReal)

/-- Sigmoids times a matrix of reals are reals. -/
theorem logits_real (x : Fin 3 → EReal) (a : Fin 3 → Fin 3 → EReal) (h : ∀ i k, ∃ r : ℝ, a i k = (r : EReal)) (k : Fin 3) :
    ∃ r : ℝ, logits (fun i => Ideal.logistic (x i)) a k = (r : EReal) := by
  choose s hs using fun i => logistic_real (x i)
  choose b hb using h
  refine ⟨(s 0 * b 0 k + s 1 * b 1 k + s 2 * b 2 k) * (1 / 3), ?_⟩
  unfold logits
  simp only [hs, hb]
  norm_cast

/-- The fold of `max` from below all over three values is the greatest of them. -/
theorem fold_max (l : Fin 3 → EReal) : Finset.univ.fold max ⊥ l = top l := by
  have e : (Finset.univ : Finset (Fin 3)) = {0, 1, 2} := by decide
  rw [e, Finset.fold_insert (by decide), Finset.fold_insert (by decide), Finset.fold_singleton]
  unfold top
  rw [max_bot_right]

/-- The word of the reductions' start denotes `-∞`, and the word of `3.0` three. -/
theorem ofBits_neg_inf : Ideal.ofBits .f32 0xFF800000#32 = ⊥ := by
  simp [Ideal.ofBits, Ideal.ieee, -EReal.coe_mul]

theorem ofBits_three : Ideal.ofBits .f32 0x40400000#32 = 3 := by
  rw [three]; simp [Ideal.ofBits, Ideal.ieee, -EReal.coe_mul]; norm_num

end Cert.Proof.Attention

end
-- ==== Proof.Reference.lean ====
/-
  What the reference computes, read at an index: each layer is, at row `r` and column `c`, three times the softmax mixture of its three
  channels there. The two layers apply the same operations to different arrays, so the reading of the attention is proved once.
-/
module

public import proofs.«01_k».proof.Proof.Attention
public import proofs.«01_k».proof.Proof.Gen.ReferenceIdeal.Read
public import Idealize.ShloMosaic.Lib.Pointwise

@[expose] public section

set_option maxRecDepth 16384

noncomputable section

namespace Cert.Proof.Reference

open Cert.ReferenceIdeal Cert.ReferenceIdeal.Gen Cert.ReferenceIdeal.Read Cert.Proof.Attention
open Idealize.ShloMosaic

/-- A float array of extended reals. -/
abbrev Arr (s : Shape) : Type := FVec Ideal s .f32

/-- The reference's sigmoid of a column. -/
def sigm (z : Arr S10000x1) : Arr S10000x1 :=
  Host.divf (broadcastInDim S10000x1 ![] bcast_S_S10000x1 (constant S_ .f32 0x3F800000#32))
    (addf (broadcastInDim S10000x1 ![] bcast_S_S10000x1 (constant S_ .f32 0x3F800000#32)) (Host.exp (Host.negf z)))

/-- The three sigmoids side by side, times the attention matrix, divided by three. -/
def scaled (z0 z1 z2 : Arr S10000x1) (a : Arr S3x3) : Arr S10000x3 :=
  Host.divf (Host.dotGeneral dot_S10000x3_S3x3_S10000x3_1_0_0_1_n_n none
      (concatenate S10000x3 1 [⟨S10000x1, sigm z0⟩, ⟨S10000x1, sigm z1⟩, ⟨S10000x1, sigm z2⟩] concatenates_S10000x1_S10000x1_S10000x1_S10000x3_d1) a)
    (broadcastInDim S10000x3 ![] bcast_S_S10000x3 (constant S_ .f32 0x40400000#32))

/-- The exponentials of a row less its greatest entry. -/
def expo (l : Arr S10000x3) : Arr S10000x3 :=
  Host.exp (subf l (broadcastInDim S10000x3 ![0, 1] bcast_S10000x1_S10000x3_0_1 (broadcastInDim S10000x1 ![0] bcast_S10000_S10000x1_0
    (maximumf (broadcastInDim S10000 ![] bcast_S_S10000 (constant S_ .f32 0xFF800000#32))
      (Host.reduce FloatOps.maximumf l (constant S_ .f32 0xFF800000#32) reducesTo_S10000x3_S10000_d1 h_S_)))))

/-- Exponentials divided by their row's sum. -/
def shares (e : Arr S10000x3) : Arr S10000x3 :=
  Host.divf e (broadcastInDim S10000x3 ![0, 1] bcast_S10000x1_S10000x3_0_1 (broadcastInDim S10000x1 ![0] bcast_S10000_S10000x1_0
    (Host.reduceAdd e (constant S_ .f32 0x00000000#32) reducesTo_S10000x3_S10000_d1 h_S_)))

/-- An entry of the sigmoid is the logistic function of that entry. -/
theorem sigm_apply (z : Arr S10000x1) (r : Fin 10000) (j : Fin 1) : sigm z (ix2 r j) = Ideal.logistic (z (ix2 r 0)) := by
  rw [Subsingleton.elim j 0]
  pointwise [sigm]
  rfl

/-- A row of the scaled logits, from the row's entry of each of the three columns. -/
theorem scaled_apply (z0 z1 z2 : Arr S10000x1) (a : Arr S3x3) (r : Fin 10000) (k : Fin 3) :
    scaled z0 z1 z2 a (ix2 r k)
      = logits (fun i => Ideal.logistic (![z0 (ix2 r 0), z1 (ix2 r 0), z2 (ix2 r 0)] i)) (fun i j => a (ix2 i j)) k := by
  pointwise [scaled]
  rw [Fin.sum_univ_three, ofBits_three, three, Ideal.div_coe (by norm_num)]
  rw [dif_pos (by decide), dif_neg (by decide), dif_pos (by decide), dif_neg (by decide), dif_neg (by decide)]
  rw [sigm_apply, sigm_apply, sigm_apply]
  rfl

/-- An exponential of a row, from the row. -/
theorem expo_apply (l : Arr S10000x3) (r : Fin 10000) (k : Fin 3) : expo l (ix2 r k) = weight (fun j => l (ix2 r j)) k := by
  pointwise [expo]
  rw [ofBits_neg_inf, fold_max, max_bot_left]
  rfl

/-- A share of a row, from the row. -/
theorem shares_apply (e : Arr S10000x3) (r : Fin 10000) (k : Fin 3) :
    shares e (ix2 r k) = Ideal.div (e (ix2 r k)) (e (ix2 r 0) + e (ix2 r 1) + e (ix2 r 2)) := by
  pointwise [shares]
  rw [Fin.sum_univ_three]

/-- The whole attention at a row: the softmax of the row's logits. -/
theorem attention_apply (z0 z1 z2 : Arr S10000x1) (a : Arr S3x3) (r : Fin 10000) (k : Fin 3) :
    shares (expo (scaled z0 z1 z2 a)) (ix2 r k)
      = Ideal.div (weight (logits (fun i => Ideal.logistic (![z0 (ix2 r 0), z1 (ix2 r 0), z2 (ix2 r 0)] i)) (fun i j => a (ix2 i j))) k)
          (total (logits (fun i => Ideal.logistic (![z0 (ix2 r 0), z1 (ix2 r 0), z2 (ix2 r 0)] i)) (fun i j => a (ix2 i j)))) := by
  rw [shares_apply, expo_apply, expo_apply, expo_apply, expo_apply]
  simp only [scaled_apply]
  rfl

variable (x0 : Arr S10000x128) (x1 x2 : Arr S10000x10000) (x4 x5 x6 : Arr S128x128) (x7 x8 x9 : Arr S128x1) (x10 : Arr S3x3)
  (x11 x12 x13 : Arr S128x64) (x14 x15 x16 : Arr S64x1) (x17 : Arr S3x3)

/-- The first layer at a row and a column: the part above zero of three times the mixture. -/
theorem layer1_apply (r : Fin 10000) (c : Fin 128) :
    val_main_v57 (F := Ideal) x0 x1 x2 x4 x5 x6 x7 x8 x9 x10 (ix2 r c)
      = max (softmaxMix
          (logits (fun i => Ideal.logistic (![val_main_v8 (F := Ideal) x0 x1 x4 x7 (ix2 r 0), val_main_v15 (F := Ideal) x0 x2 x5 x8 (ix2 r 0),
            val_main_v22 (F := Ideal) x0 x6 x9 (ix2 r 0)] i)) (fun i j => x10 (ix2 i j)))
          ![val_main_v2 (F := Ideal) x0 x1 x4 (ix2 r c), val_main_v5 (F := Ideal) x0 x2 x5 (ix2 r c), val_main_v7 (F := Ideal) x0 x6 (ix2 r c)]) 0 := by
  have e : val_main_v43 (F := Ideal) x0 x1 x2 x4 x5 x6 x7 x8 x9 x10
      = shares (expo (scaled (val_main_v8 (F := Ideal) x0 x1 x4 x7) (val_main_v15 (F := Ideal) x0 x2 x5 x8) (val_main_v22 (F := Ideal) x0 x6 x9) x10)) := rfl
  pointwise [val_main_v57, val_main_v56, val_main_v54, val_main_v53, val_main_v50, val_main_v52, val_main_v51, val_main_v46, val_main_v49, val_main_v45,
    val_main_v48, val_main_v44, val_main_v47, val_main_v55, val_main_cst_9, val_main_call3_v0, val_main_call3_cst]
  rw [e, attention_apply, attention_apply, attention_apply, ofBits_three]
  rfl

/-- The second layer at a row and a column. -/
theorem layer2_apply (r : Fin 10000) (c : Fin 64) :
    val_main_v114 (F := Ideal) x0 x1 x2 x4 x5 x6 x7 x8 x9 x10 x11 x12 x13 x14 x15 x16 x17 (ix2 r c)
      = softmaxMix
          (logits (fun i => Ideal.logistic (![val_main_v66 (F := Ideal) x0 x1 x2 x4 x5 x6 x7 x8 x9 x10 x11 x14 (ix2 r 0),
            val_main_v73 (F := Ideal) x0 x1 x2 x4 x5 x6 x7 x8 x9 x10 x12 x15 (ix2 r 0),
            val_main_v80 (F := Ideal) x0 x1 x2 x4 x5 x6 x7 x8 x9 x10 x13 x16 (ix2 r 0)] i)) (fun i j => x17 (ix2 i j)))
          ![val_main_v60 (F := Ideal) x0 x1 x2 x4 x5 x6 x7 x8 x9 x10 x11 (ix2 r c),
            val_main_v63 (F := Ideal) x0 x1 x2 x4 x5 x6 x7 x8 x9 x10 x12 (ix2 r c),
            val_main_v65 (F := Ideal) x0 x1 x2 x4 x5 x6 x7 x8 x9 x10 x13 (ix2 r c)] := by
  have e : val_main_v101 (F := Ideal) x0 x1 x2 x4 x5 x6 x7 x8 x9 x10 x11 x12 x13 x14 x15 x16 x17
      = shares (expo (scaled (val_main_v66 (F := Ideal) x0 x1 x2 x4 x5 x6 x7 x8 x9 x10 x11 x14)
          (val_main_v73 (F := Ideal) x0 x1 x2 x4 x5 x6 x7 x8 x9 x10 x12 x15) (val_main_v80 (F := Ideal) x0 x1 x2 x4 x5 x6 x7 x8 x9 x10 x13 x16) x17)) := rfl
  pointwise [val_main_v114, val_main_v113, val_main_v112, val_main_v111, val_main_v110, val_main_v109, val_main_v108, val_main_v107, val_main_v106,
    val_main_v105, val_main_v104, val_main_v103, val_main_v102, val_main_cst_20]
  rw [e, attention_apply, attention_apply, attention_apply, ofBits_three]
  rfl

end Cert.Proof.Reference

end
-- ==== Proof.KernelValue.lean ====
/-
  What a block of the kernel computes, read at an index over the extended reals: each of its pure values is the reference's value at
  the block's row of the whole array.
-/
module

public import proofs.«01_k».proof.Proof.Bands
public import proofs.«01_k».proof.Proof.Reference
public import Idealize.ShloMosaic.Lib.Pointwise
public import Idealize.ShloMosaic.Lib.Pointwise.IndexBridge

@[expose] public section

set_option maxRecDepth 16384

noncomputable section

namespace Cert.Proof.KernelValue

open Cert.KernelIdeal Cert.KernelIdeal.Gen Cert.Proof.Attention Cert.Proof.Body Cert.Proof.Bands Cert.Proof.Reference
open Cert.ReferenceIdeal.Read
open Idealize.ShloMosaic

/-- The row of the whole array that row `r` of band `n` is. -/
def row (n : ℕ) (r : Fin 200) : Fin 10000 := ⟨200 * (n % 50) + r.val, by have := r.isLt; omega⟩

theorem rows_apply {α : Type} {k : ℕ} (n : ℕ) (x : (⟨2, ![10000, k]⟩ : Shape).Idx → α) (r : Fin 200) (c : Fin k) :
    rows n x (ix2 r c) = x (ix2 (row n r) c) := rfl

/-- An entry of a stack of bands is its band's, at the row within the band. -/
theorem stack_apply {α : Type} {k : ℕ} (b : ℕ → (⟨2, ![200, k]⟩ : Shape).Idx → α) (i : Fin 10000) (c : Fin k) :
    stack b (ix2 i c) = b (i.val / 200) (ix2 ⟨i.val % 200, Nat.mod_lt _ (by omega)⟩ c) := rfl

theorem row_div (i : Fin 10000) : row (i.val / 200) ⟨i.val % 200, Nat.mod_lt _ (by omega)⟩ = i := by
  apply Fin.ext; show 200 * (i.val / 200 % 50) + i.val % 200 = i.val; have := i.isLt; omega

/-- Bands that read an array row by row stack to that array. -/
theorem stack_eq {k : ℕ} (b : ℕ → (⟨2, ![200, k]⟩ : Shape).Idx → EReal) (x : (⟨2, ![10000, k]⟩ : Shape).Idx → EReal)
    (h : ∀ n r c, b n (ix2 r c) = x (ix2 (row n r) c)) : stack b = x := by
  funext i
  obtain ⟨a, c, rfl⟩ : ∃ (a : Fin 10000) (c : Fin k), i = ix2 a c := ⟨i 0, i 1, eq_ix2 i⟩
  rw [stack_apply, h, row_div]

theorem third : (Named.named (F := Ideal) κ "third" (φ := .f32) 0x3EAAAAAB#32 : EReal) = ((1 / 3 : ℝ) : EReal) := rfl

/-- The first layer's block at a row and a column: the part above zero of the mixture, from the row's three sigmoids. -/
theorem pay14_apply (o0 o1 o2 : FVec Ideal S200x128 .f32) (s1 s2 : FVec Ideal S200x1 .f32) (a : FVec Ideal S3x3 .f32) (s0 : FVec Ideal S200x3 .f32)
    (s : Fin 3 → EReal) (r : Fin 200) (c : Fin 128) (h0 : ∀ x, s0 (ix2 r x) = s 0) (h1 : s1 (ix2 r 0) = s 1) (h2 : s2 (ix2 r 0) = s 2) :
    k0_pay14 o0 o1 o2 s1 s2 a (k0_pay12 a) s0 (ix2 r c)
      = max (mixture (logits s fun i j => a (ix2 i j)) ![o0 (ix2 r c), o1 (ix2 r c), o2 (ix2 r c)]) 0 := by
  pointwise [k0_pay14, k0_pay12]
  simp only [h0, h1, h2, third, ofBits_neg_inf, ofBits_three, fold_max, Fin.sum_univ_three]
  rfl

/-- The second layer's block, likewise. -/
theorem pay6_apply (o0 o1 o2 : FVec Ideal S200x64 .f32) (t : FVec Ideal S200x3 .f32) (l : Fin 3 → EReal) (r : Fin 200) (c : Fin 64)
    (h : ∀ k, t (ix2 r k) * ((1 / 3 : ℝ) : EReal) = l k) :
    k0_pay6 o0 o1 o2 t (ix2 r c) = mixture l ![o0 (ix2 r c), o1 (ix2 r c), o2 (ix2 r c)] := by
  pointwise [k0_pay6]
  simp only [third, h, ofBits_neg_inf, ofBits_three, fold_max, Fin.sum_univ_three]
  rfl

variable (n : ℕ) (r : Fin 200)
variable (x0 : Arr S10000x128) (x1 x2 : Arr S10000x10000) (x4 x5 x6 : Arr S128x128) (x7 x8 x9 : Arr S128x1) (x10 : Arr S3x3)
  (x11 x12 x13 : Arr S128x64) (x14 x15 x16 : Arr S64x1) (x17 : Arr S3x3)

theorem low1 (c : Fin 128) : k0_pay7 (F := Ideal) (rows n x1) (k0_pay2 (F := Ideal) x0 x4) (ix2 r c) = val_main_v2 (F := Ideal) x0 x1 x4 (ix2 (row n r) c) := by
  pointwise [k0_pay7, k0_pay2, k0_pay1, val_main_v2, val_main_v1, val_main_v0, val_main_call0_v0, val_main_call0_cst]
  rfl

theorem high1 (c : Fin 128) : k0_pay8 (F := Ideal) (rows n x2) (k0_pay3 (F := Ideal) x0 x5) (ix2 r c) = val_main_v5 (F := Ideal) x0 x2 x5 (ix2 (row n r) c) := by
  pointwise [k0_pay8, k0_pay3, k0_pay1, val_main_v5, val_main_v4, val_main_v3, val_main_call1_v0, val_main_call1_cst]
  rfl

theorem full1 (c : Fin 128) : k0_pay9 (F := Ideal) (rows n x0) x6 (ix2 r c) = val_main_v7 (F := Ideal) x0 x6 (ix2 (row n r) c) := by
  pointwise [k0_pay9, val_main_v7, val_main_v6, val_main_call2_v0, val_main_call2_cst]
  rfl

theorem low1_nonneg (i : Fin 10000) (c : Fin 128) : 0 ≤ val_main_v2 (F := Ideal) x0 x1 x4 (ix2 i c) := by
  pointwise [val_main_v2, val_main_call0_v0, val_main_call0_cst]
  exact le_max_right _ _

theorem high1_nonneg (i : Fin 10000) (c : Fin 128) : 0 ≤ val_main_v5 (F := Ideal) x0 x2 x5 (ix2 i c) := by
  pointwise [val_main_v5, val_main_call1_v0, val_main_call1_cst]
  exact le_max_right _ _

theorem full1_nonneg (i : Fin 10000) (c : Fin 128) : 0 ≤ val_main_v7 (F := Ideal) x0 x6 (ix2 i c) := by
  pointwise [val_main_v7, val_main_call2_v0, val_main_call2_cst]
  exact le_max_right _ _

theorem lowScore1 (k : Fin 3) : k0_pay13 (F := Ideal) (rows n x1) (k0_pay2 (F := Ideal) x0 x4) x7 (ix2 r k)
    = Ideal.logistic (val_main_v8 (F := Ideal) x0 x1 x4 x7 (ix2 (row n r) 0)) := by
  pointwise [k0_pay13, val_main_v8]
  exact congrArg Ideal.logistic (Finset.sum_congr rfl fun k _ => congrArg (· * _) (low1 n r x0 x1 x4 k))

theorem highScore1 : k0_pay10 (F := Ideal) (rows n x2) (k0_pay3 (F := Ideal) x0 x5) x8 (ix2 r 0)
    = Ideal.logistic (val_main_v15 (F := Ideal) x0 x2 x5 x8 (ix2 (row n r) 0)) := by
  pointwise [k0_pay10, val_main_v15]
  exact congrArg Ideal.logistic (Finset.sum_congr rfl fun k _ => congrArg (· * _) (high1 n r x0 x2 x5 k))

theorem fullScore1 : k0_pay11 (F := Ideal) (rows n x0) x6 x9 (ix2 r 0)
    = Ideal.logistic (val_main_v22 (F := Ideal) x0 x6 x9 (ix2 (row n r) 0)) := by
  pointwise [k0_pay11, val_main_v22]
  exact congrArg Ideal.logistic (Finset.sum_congr rfl fun k _ => congrArg (· * _) (full1 n r x0 x6 k))

/-- The first layer's block is the reference's first layer at the block's rows, whatever the arguments hold. -/
theorem mix1 (c : Fin 128) :
    fea (F := Ideal) (rows n x1) (rows n x2) (k0_pay2 (F := Ideal) x0 x4) (k0_pay3 (F := Ideal) x0 x5) (rows n x0) x6 x7 x8 x9 x10 (ix2 r c)
      = val_main_v57 (F := Ideal) x0 x1 x2 x4 x5 x6 x7 x8 x9 x10 (ix2 (row n r) c) := by
  rw [layer1_apply, ← max_mixture]
  · rw [fea, pay14_apply (h0 := lowScore1 n r x0 x1 x4 x7)
      (s := fun i => Ideal.logistic (![val_main_v8 (F := Ideal) x0 x1 x4 x7 (ix2 (row n r) 0), val_main_v15 (F := Ideal) x0 x2 x5 x8 (ix2 (row n r) 0),
        val_main_v22 (F := Ideal) x0 x6 x9 (ix2 (row n r) 0)] i)) (h1 := highScore1 n r x0 x2 x5 x8) (h2 := fullScore1 n r x0 x6 x9)]
    rw [low1, high1, full1]
  · intro k
    fin_cases k
    · exact low1_nonneg x0 x1 x4 (row n r) c
    · exact high1_nonneg x0 x2 x5 (row n r) c
    · exact full1_nonneg x0 x6 (row n r) c

end Cert.Proof.KernelValue

end
-- ==== Proof.SecondLayer.lean ====
/-
  The second layer: the three arrays the first half of the points leave are the reference's, so a block of the second half computes the
  reference's second layer at its rows, where the second attention matrix is real.
-/
module

public import proofs.«01_k».proof.Proof.KernelValue

@[expose] public section

set_option maxRecDepth 16384

noncomputable section

namespace Cert.Proof.SecondLayer

open Cert.KernelIdeal Cert.KernelIdeal.Gen Cert.Proof.Attention Cert.Proof.Body Cert.Proof.Bands Cert.Proof.Reference Cert.Proof.KernelValue
open Cert.ReferenceIdeal.Read
open Idealize.ShloMosaic

variable (n : ℕ) (r : Fin 200)
variable (x0 : Arr S10000x128) (x1 x2 : Arr S10000x10000) (x4 x5 x6 : Arr S128x128) (x7 x8 x9 : Arr S128x1) (x10 : Arr S3x3)
  (x11 x12 x13 : Arr S128x64) (x14 x15 x16 : Arr S64x1) (x17 : Arr S3x3)

/-- The first layer on band `n`. -/
def feat : FVec Ideal S200x128 .bf16 :=
  fea (F := Ideal) (rows n x1) (rows n x2) (k0_pay2 (F := Ideal) x0 x4) (k0_pay3 (F := Ideal) x0 x5) (rows n x0) x6 x7 x8 x9 x10

theorem feat_apply (c : Fin 128) : feat n x0 x1 x2 x4 x5 x6 x7 x8 x9 x10 (ix2 r c)
    = val_main_v57 (F := Ideal) x0 x1 x2 x4 x5 x6 x7 x8 x9 x10 (ix2 (row n r) c) := mix1 n r x0 x1 x2 x4 x5 x6 x7 x8 x9 x10 c

/-! ## The three arrays between the layers -/

/-- The first layer times the low-pass weights. -/
theorem low_band (c : Fin 64) :
    bandL (F := Ideal) (rows n x1) (rows n x2) (k0_pay2 (F := Ideal) x0 x4) (k0_pay3 (F := Ideal) x0 x5) (rows n x0) x6 x7 x8 x9 x10 x11 (ix2 r c)
      = val_main_v58 (F := Ideal) x0 x1 x2 x4 x5 x6 x7 x8 x9 x10 x11 (ix2 (row n r) c) := by
  rw [bandL]
  pointwise [k0_pay15, val_main_v58]
  exact Finset.sum_congr rfl fun k _ => congrArg (· * _) (feat_apply n r x0 x1 x2 x4 x5 x6 x7 x8 x9 x10 k)

/-- The first layer times the high-pass weights. -/
theorem high_band (c : Fin 64) :
    k0_pay4 (F := Ideal) (feat n x0 x1 x2 x4 x5 x6 x7 x8 x9 x10) (k0_pay16 (F := Ideal) x12) (ix2 r c)
      = val_main_v61 (F := Ideal) x0 x1 x2 x4 x5 x6 x7 x8 x9 x10 x12 (ix2 (row n r) c) := by
  pointwise [k0_pay4, k0_pay16, val_main_v61]
  exact Finset.sum_congr rfl fun k _ => congrArg (· * _) (feat_apply n r x0 x1 x2 x4 x5 x6 x7 x8 x9 x10 k)

/-- The part above zero of the first layer times the full-pass weights. -/
theorem full_band (c : Fin 64) :
    k0_pay5 (F := Ideal) (feat n x0 x1 x2 x4 x5 x6 x7 x8 x9 x10) x13 (ix2 r c)
      = val_main_v65 (F := Ideal) x0 x1 x2 x4 x5 x6 x7 x8 x9 x10 x13 (ix2 (row n r) c) := by
  pointwise [k0_pay5, val_main_v65, val_main_v64, val_main_call6_v0, val_main_call6_cst]
  exact congrArg (max · 0) (Finset.sum_congr rfl fun k _ => congrArg (· * _) (feat_apply n r x0 x1 x2 x4 x5 x6 x7 x8 x9 x10 k))

/-! ## The second layer on a block -/

theorem low2 (c : Fin 64) :
    k0_pay17 (F := Ideal) (rows n x1) (val_main_v58 (F := Ideal) x0 x1 x2 x4 x5 x6 x7 x8 x9 x10 x11) (ix2 r c)
      = val_main_v60 (F := Ideal) x0 x1 x2 x4 x5 x6 x7 x8 x9 x10 x11 (ix2 (row n r) c) := by
  pointwise [k0_pay17, val_main_v60, val_main_v59, val_main_call4_v0, val_main_call4_cst]
  rfl

theorem high2 (c : Fin 64) :
    k0_pay18 (F := Ideal) (rows n x2) (val_main_v61 (F := Ideal) x0 x1 x2 x4 x5 x6 x7 x8 x9 x10 x12) (ix2 r c)
      = val_main_v63 (F := Ideal) x0 x1 x2 x4 x5 x6 x7 x8 x9 x10 x12 (ix2 (row n r) c) := by
  pointwise [k0_pay18, val_main_v63, val_main_v62, val_main_call5_v0, val_main_call5_cst]
  rfl

/-- The three channels are not negative. -/
theorem low2_nonneg (i : Fin 10000) (c : Fin 64) : 0 ≤ val_main_v60 (F := Ideal) x0 x1 x2 x4 x5 x6 x7 x8 x9 x10 x11 (ix2 i c) := by
  pointwise [val_main_v60, val_main_call4_v0, val_main_call4_cst]
  exact le_max_right _ _

theorem high2_nonneg (i : Fin 10000) (c : Fin 64) : 0 ≤ val_main_v63 (F := Ideal) x0 x1 x2 x4 x5 x6 x7 x8 x9 x10 x12 (ix2 i c) := by
  pointwise [val_main_v63, val_main_call5_v0, val_main_call5_cst]
  exact le_max_right _ _

theorem full2_nonneg (i : Fin 10000) (c : Fin 64) : 0 ≤ val_main_v65 (F := Ideal) x0 x1 x2 x4 x5 x6 x7 x8 x9 x10 x13 (ix2 i c) := by
  pointwise [val_main_v65, val_main_call6_v0, val_main_call6_cst]
  exact le_max_right _ _

/-- The logits before the third: from any block whose three channels are rows of three arrays `o0`, `o1`, `o2`. -/
theorem logits2 (a1 a2 : Arr S200x10000) (y1 y2 : Arr S10000x64) (z : Arr S200x64) (k : Fin 3) (s : Fin 3 → EReal)
    (h0 : ∑ j, k0_pay17 (F := Ideal) a1 y1 (ix2 r j) * x14 (ix2 j 0) = s 0)
    (h1 : ∑ j, k0_pay18 (F := Ideal) a2 y2 (ix2 r j) * x15 (ix2 j 0) = s 1)
    (h2 : ∑ j, z (ix2 r j) * x16 (ix2 j 0) = s 2) :
    k0_pay19 (F := Ideal) a1 y1 a2 y2 z x14 x15 x16 x17 (ix2 r k) * ((1 / 3 : ℝ) : EReal)
      = logits (fun i => Ideal.logistic (s i)) (fun i j => x17 (ix2 i j)) k := by
  pointwise [k0_pay19]
  rw [h0, h1, h2]
  rfl

/-- A block of the second half is the reference's second layer at its rows, where the second attention matrix is real. -/
theorem out_block (ha : ∀ i j : Fin 3, ∃ y : ℝ, x17 (ix2 i j) = y) (z : Arr S200x64)
    (hz : ∀ c, z (ix2 r c) = val_main_v65 (F := Ideal) x0 x1 x2 x4 x5 x6 x7 x8 x9 x10 x13 (ix2 (row n r) c)) (c : Fin 64) :
    outBlock (F := Ideal) (rows n x1) (rows n x2) (val_main_v58 (F := Ideal) x0 x1 x2 x4 x5 x6 x7 x8 x9 x10 x11)
        (val_main_v61 (F := Ideal) x0 x1 x2 x4 x5 x6 x7 x8 x9 x10 x12) z x14 x15 x16 x17 (ix2 r c)
      = val_main_v114 (F := Ideal) x0 x1 x2 x4 x5 x6 x7 x8 x9 x10 x11 x12 x13 x14 x15 x16 x17 (ix2 (row n r) c) := by
  rw [layer2_apply, outBlock, pay6_apply (h := fun k => logits2 r x14 x15 x16 x17 _ _ _ _ z k
    ![val_main_v66 (F := Ideal) x0 x1 x2 x4 x5 x6 x7 x8 x9 x10 x11 x14 (ix2 (row n r) 0),
      val_main_v73 (F := Ideal) x0 x1 x2 x4 x5 x6 x7 x8 x9 x10 x12 x15 (ix2 (row n r) 0),
      val_main_v80 (F := Ideal) x0 x1 x2 x4 x5 x6 x7 x8 x9 x10 x13 x16 (ix2 (row n r) 0)] ?_ ?_ ?_)]
  · rw [low2, high2, hz]
    refine mixture_eq_of_ne _ _ (fun k => ?_) (weight_ne _ (logits_real _ _ ha))
    fin_cases k
    · exact low2_nonneg x0 x1 x2 x4 x5 x6 x7 x8 x9 x10 x11 (row n r) c
    · exact high2_nonneg x0 x1 x2 x4 x5 x6 x7 x8 x9 x10 x12 (row n r) c
    · exact full2_nonneg x0 x1 x2 x4 x5 x6 x7 x8 x9 x10 x13 (row n r) c
  · show _ = val_main_v66 (F := Ideal) x0 x1 x2 x4 x5 x6 x7 x8 x9 x10 x11 x14 (ix2 (row n r) 0)
    pointwise [val_main_v66]
    exact Finset.sum_congr rfl fun j _ => congrArg (· * _) (low2 n r x0 x1 x2 x4 x5 x6 x7 x8 x9 x10 x11 j)
  · show _ = val_main_v73 (F := Ideal) x0 x1 x2 x4 x5 x6 x7 x8 x9 x10 x12 x15 (ix2 (row n r) 0)
    pointwise [val_main_v73]
    exact Finset.sum_congr rfl fun j _ => congrArg (· * _) (high2 n r x0 x1 x2 x4 x5 x6 x7 x8 x9 x10 x12 j)
  · show _ = val_main_v80 (F := Ideal) x0 x1 x2 x4 x5 x6 x7 x8 x9 x10 x13 x16 (ix2 (row n r) 0)
    pointwise [val_main_v80]
    exact Finset.sum_congr rfl fun j _ => congrArg (· * _) (hz j)

end Cert.Proof.SecondLayer

end
-- ==== Proof.Equation.lean ====
/-
  The equation: where the second attention matrix is real, the array the kernel leaves is the array the reference computes of the same
  arguments.
-/
module

public import proofs.«01_k».proof.Proof.SecondLayer
public import proofs.«01_k».proof.Proof.Gen.Pre_att_vec2_finite

@[expose] public section

set_option maxRecDepth 16384

noncomputable section

namespace Cert.Proof.Equation

open Cert.KernelIdeal Cert.KernelIdeal.Gen Cert.Proof.Attention Cert.Proof.Body Cert.Proof.Bands Cert.Proof.Reference Cert.Proof.KernelValue
open Cert.Proof.SecondLayer Cert.ReferenceIdeal.Read
open Idealize.ShloMosaic

variable (m : (ℓ : Loc nD τ sig) → Buf (Elt Ideal) ℓ) (c : Dev nD)

/-- The low-pass array between the layers is the reference's. -/
theorem stack_low : stack (bandLow (F := Ideal) m c) = val_main_v58 (F := Ideal) (V m c main_arg0) (V m c main_arg1) (V m c main_arg2) (V m c main_arg4) (V m c main_arg5) (V m c main_arg6) (V m c main_arg7) (V m c main_arg8) (V m c main_arg9) (V m c main_arg10) (V m c main_arg11) :=
  stack_eq _ _ fun n r j => low_band n r (V m c main_arg0) (V m c main_arg1) (V m c main_arg2) (V m c main_arg4) (V m c main_arg5) (V m c main_arg6) (V m c main_arg7) (V m c main_arg8) (V m c main_arg9) (V m c main_arg10) (V m c main_arg11) j

/-- The high-pass array between the layers is the reference's. -/
theorem stack_high : stack (bandHigh (F := Ideal) m c) = val_main_v61 (F := Ideal) (V m c main_arg0) (V m c main_arg1) (V m c main_arg2) (V m c main_arg4) (V m c main_arg5) (V m c main_arg6) (V m c main_arg7) (V m c main_arg8) (V m c main_arg9) (V m c main_arg10) (V m c main_arg12) :=
  stack_eq _ _ fun n r j => high_band n r (V m c main_arg0) (V m c main_arg1) (V m c main_arg2) (V m c main_arg4) (V m c main_arg5) (V m c main_arg6) (V m c main_arg7) (V m c main_arg8) (V m c main_arg9) (V m c main_arg10) (V m c main_arg12) j

theorem row_mod (n : ℕ) (r : Fin 200) : row (n % 50) r = row n r := Fin.ext (by show 200 * (n % 50 % 50) + _ = 200 * (n % 50) + _; rw [Nat.mod_mod])

/-- The kernel's result is the reference's. -/
theorem result_eq (ha : ∀ i j : Fin 3, ∃ y : ℝ, (V m c main_arg17 : Arr S3x3) (ix2 i j) = (y : EReal)) :
    stack (bandOut (F := Ideal) m c) = val_main_v114 (F := Ideal) (V m c main_arg0) (V m c main_arg1) (V m c main_arg2) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) :=
  stack_eq _ _ fun n r j => by
    rw [bandOut, stack_low, stack_high]
    refine out_block n r (V m c main_arg0) (V m c main_arg1) (V m c main_arg2) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) ha _ (fun k => ?_) j
    have h := full_band (n % 50) r (V m c main_arg0) (V m c main_arg1) (V m c main_arg2) (V m c main_arg4) (V m c main_arg5) (V m c main_arg6) (V m c main_arg7) (V m c main_arg8) (V m c main_arg9) (V m c main_arg10) (V m c main_arg13) k
    rw [row_mod] at h
    exact h

/-- An extended real whose absolute value is below infinity is real. -/
theorem real_of_cmp (x : EReal) (h : Ideal.cmp .olt (max x (-x)) (Ideal.ofBits .f32 0x7F800000#32) = 1#1) : ∃ y : ℝ, x = y := by
  rw [show Ideal.ofBits .f32 0x7F800000#32 = ⊤ by simp [Ideal.ofBits, Ideal.ieee]] at h
  induction x using EReal.rec with
  | coe y => exact ⟨y, rfl⟩
  | bot => simp [Ideal.cmp] at h
  | top => simp [Ideal.cmp] at h

/-- Where the precondition's function is all ones, the second attention matrix is real. -/
theorem real_of_pre (x0 : Arr S10000x128) (x1 x2 x3 : Arr S10000x10000) (x4 x5 x6 : Arr S128x128) (x7 x8 x9 : Arr S128x1) (x10 : Arr S3x3)
    (x11 x12 x13 : Arr S128x64) (x14 x15 x16 : Arr S64x1) (x17 : Arr S3x3)
    (h : Cert.Pre_att_vec2_finite.fn (F := Ideal) x0 x1 x2 x3 x4 x5 x6 x7 x8 x9 x10 x11 x12 x13 x14 x15 x16 x17 = fun _ => 1#1) (i j : Fin 3) :
    ∃ y : ℝ, x17 (ix2 i j) = y := by
  have e := congrFun h (ix2 i j)
  exact real_of_cmp _ e

end Cert.Proof.Equation

end
-- ==== Proof.lean ====
/-
  The proof of `Cert.Claim`: the three frames, the constant the idealized kernel names, and the equation of the kernel's result with
  the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_att_vec2_finite
public import proofs.«01_k».proof.Proof.KernelFrame
public import proofs.«01_k».proof.Proof.Result
public import proofs.«01_k».proof.Proof.Equation
public import Idealize.ShloMosaic.Lib.Claim
public import Idealize.ShloMosaic.Lib.Quiescent

@[expose] public section

noncomputable section

namespace Cert.Proof

open Idealize.ShloMosaic Idealize.SL.Sem

/-- The printed kernel runs to its end, leaves its arguments and every counter as they were. -/
theorem frame_kernel : Cert.quiescent_Kernel := fun m ρ _ => KernelFrame.frame m ρ

/-- So does the idealized kernel. -/
theorem frame_kernelIdeal : Cert.quiescent_KernelIdeal := fun m ρ _ =>
  (θ_run (Cert.KernelIdeal.defs (F := Ideal)) _ _).mono (fun _ h => ⟨fun c => (h.1 c).2, h.2⟩) (Result.run (F := Ideal) m ρ)

theorem frame_kernelIdeal_pre : Cert.quiescent_KernelIdeal_pre_att_vec2_finite := fun m ρ _ => frame_kernelIdeal m ρ trivial

/-- So does the reference, which declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_pre : Cert.quiescent_ReferenceIdeal_pre_att_vec2_finite := fun m ρ _ => frame_reference m ρ trivial

/-- The constant the idealized kernel names reads as a third. -/
theorem preserves : Cert.preserves_Kernel_KernelIdeal :=
  IdealRules.named_const.statement Cert.KernelIdeal.κ "third" .f32 0x3EAAAAAB#32 ((1 / 3 : ℝ) : EReal) rfl

/-- From memories that agree on the arguments, the kernel and the reference end with one result, where the second attention matrix is
    real. -/
theorem algebraic : Cert.algebraic_KernelIdeal_ReferenceIdeal_pre_att_vec2_finite := by
  intro m ρ m' ρ' hpre hagree
  refine ⟨fun c => Bands.stack (Bands.bandOut (F := Ideal) m c), (θ_run _ _ _).mono (fun _ h => h.1) (Result.run (F := Ideal) m ρ), ?_⟩
  refine (θ_run _ _ _).mono (fun _ h c => ⟨(h c).1.trans ?_, (h c).2⟩) (Cert.ReferenceIdeal.Value.run (F := Ideal) m' ρ')
  refine (Cert.ReferenceIdeal.Read.val_main_v114_eq (StableHlo.launchContents m' c)).trans ?_
  obtain ⟨h0, h1, h2, _, h4, h5, h6, h7, h8, h9, h10, h11, h12, h13, h14, h15, h16, h17⟩ := hagree c
  have e := fun b => StableHlo.launchContents_devRef m' c b
  rw [(e _).trans h0, (e _).trans h1, (e _).trans h2, (e _).trans h4, (e _).trans h5, (e _).trans h6, (e _).trans h7, (e _).trans h8, (e _).trans h9, (e _).trans h10, (e _).trans h11, (e _).trans h12, (e _).trans h13, (e _).trans h14, (e _).trans h15, (e _).trans h16, (e _).trans h17]
  exact (Equation.result_eq m c (Equation.real_of_pre _ _ _ _ _ _ _ _ _ _ _ _ _ _ _ _ _ _ (hpre c))).symm

theorem claim : Cert.Claim :=
  ⟨Cert.Kernel.Gen.facts, Cert.KernelIdeal.Gen.facts, Cert.ReferenceIdeal.Gen.facts, Cert.Pre_att_vec2_finite.Gen.facts,
    frame_kernel, frame_kernelIdeal, frame_kernelIdeal_pre, frame_reference, frame_reference_pre, preserves, algebraic⟩

end Cert.Proof

end
